-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 2048]⟩ 1 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x512 : Shape := ⟨2, ![4096, 512]⟩
abbrev S2x256x4096 : Shape := ⟨3, ![2, 256, 4096]⟩
abbrev S4x8x128 : Shape := ⟨3, ![4, 8, 128]⟩
abbrev S2 : Shape := ⟨1, ![2]⟩
abbrev S4 : Shape := ⟨1, ![4]⟩
abbrev S3 : Shape := ⟨1, ![3]⟩
abbrev S_ : Shape := ⟨0, ![]⟩
abbrev S1 : Shape := ⟨1, ![1]⟩
abbrev S1x256x4096 : Shape := ⟨3, ![1, 256, 4096]⟩
abbrev S256x4096 : Shape := ⟨2, ![256, 4096]⟩
abbrev S1024x512 : Shape := ⟨2, ![1024, 512]⟩
abbrev S1x1024x512 : Shape := ⟨3, ![1, 1024, 512]⟩
abbrev S1x1x1 : Shape := ⟨3, ![1, 1, 1]⟩
abbrev S512x4096 : Shape := ⟨2, ![512, 4096]⟩
abbrev S8x128 : Shape := ⟨2, ![8, 128]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 3
  | .vmem => 9
  | .smem => 0
  | _ => 0

abbrev bufTy : (tb : Table) → Fin (tcTables nBuf tb) → BufTy
  | .hbm, ⟨0, _⟩ => ⟨S1024x4096, .f32⟩
  | .hbm, ⟨1, _⟩ => ⟨S4096x512, .f32⟩
  | .hbm, ⟨2, _⟩ => ⟨S4096x512, .f32⟩
  | .local _ .vmem, ⟨0, _⟩ => ⟨S4096x512, .f32⟩
  | .local _ .vmem, ⟨1, _⟩ => ⟨S4096x512, .f32⟩
  | .local _ .vmem, ⟨2, _⟩ => ⟨S1024x4096, .bf16⟩
  | .local _ .vmem, ⟨3, _⟩ => ⟨S4096x512, .bf16⟩
  | .local _ .vmem, ⟨4, _⟩ => ⟨S2x256x4096, .f32⟩
  | .local _ .vmem, ⟨5, _⟩ => ⟨S1024x4096, .bf16⟩
  | .local _ .vmem, ⟨6, _⟩ => ⟨S1024x4096, .bf16⟩
  | .local _ .vmem, ⟨7, _⟩ => ⟨S1024x4096, .bf16⟩
  | .local _ .vmem, ⟨8, _⟩ => ⟨S4x8x128, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_dev3 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_74 : BitVec 32 := 1#32
  let v79 : BitVec 32 := Scalar.muli v7 c1_i32_74
  let v80 : BitVec 32 := Scalar.addi c0_i32_75 v79
  v80.toNat
def k0_dev4 (d0 : Dev nD) : Nat :=
  let c0_i32_79 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_78 : BitVec 32 := 1#32
  let v85 : BitVec 32 := Scalar.muli v5 c1_i32_78
  let v86 : BitVec 32 := Scalar.addi c0_i32_79 v85
  v86.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v100 : BitVec 32 := Scalar.muli v2 c1024_i32
  let v101 : Index := Scalar.indexCast v100
  let c0_88 : Index := 0#32
  ![v101.toNat, 0]
def k0_dev5 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_98 : BitVec 32 := 1#32
  let v116 : BitVec 32 := Scalar.muli v7 c1_i32_98
  let v117 : BitVec 32 := Scalar.addi c0_i32_99 v116
  v117.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1024_i32_109 : BitVec 32 := 1024#32
  let v127 : BitVec 32 := Scalar.muli v5 c1024_i32_109
  let v128 : Index := Scalar.indexCast v127
  let c0_110 : Index := 0#32
  ![v128.toNat, 0]
def k0_dev6 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_119 : BitVec 32 := 1#32
  let v144 : BitVec 32 := Scalar.muli v5 c1_i32_119
  let v145 : BitVec 32 := Scalar.addi c0_i32_120 v144
  v145.toNat
def k0_off3 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c1024_i32_130 : BitVec 32 := 1024#32
  let v155 : BitVec 32 := Scalar.muli v7 c1024_i32_130
  let v156 : Index := Scalar.indexCast v155
  let c0_131 : Index := 0#32
  ![v156.toNat, 0]
def k0_dev7 (d0 : Dev nD) : Nat :=
  let c0_i32_189 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_188 : BitVec 32 := 1#32
  let v212 : BitVec 32 := Scalar.muli v7 c1_i32_188
  let v213 : BitVec 32 := Scalar.addi c0_i32_189 v212
  v213.toNat
def k0_dev8 (d0 : Dev nD) : Nat :=
  let c0_i32_199 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_198 : BitVec 32 := 1#32
  let v222 : BitVec 32 := Scalar.muli v5 c1_i32_198
  let v223 : BitVec 32 := Scalar.addi c0_i32_199 v222
  v223.toNat
def k0_dev9 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_5 : BitVec 32 := 4#32
  let v9 : BitVec 32 := Scalar.remsi v8 c4_i32_5
  let c1_i32_208 : BitVec 32 := 1#32
  let v232 : BitVec 32 := Scalar.muli v9 c1_i32_208
  let v233 : BitVec 32 := Scalar.addi c0_i32_209 v232
  v233.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .local _ .vmem, ⟨0, _⟩ => ⟨S4096x4096, .f32⟩
  | .local _ .vmem, ⟨1, _⟩ => ⟨S4096x2048, .f32⟩
  | .local _ .vmem, ⟨2, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Protocol.lean ====
/-
The protocol of the kernel on its ring of four devices: its cells, what each holds, who pays it and in what order.

Device `c` has a left neighbour `lf c`, a right neighbour `rt c` and an opposite device `dg c`. Its cells are the
barrier semaphore and sixteen DMA semaphores: two for the staged copies of its own rows, four for what it sends and
four for what it receives of the rows, three and three for the maxima.

The barrier of `c` is signalled by both neighbours; with its signal a neighbour hands over the places of its own
memory that `c` will write. The left one also hands over its slot for the maximum of its own opposite device, which
`c` passes on to its right neighbour together with its rows.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's (duty names `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The right neighbour. -/
def rt (c : Dev nD) : Dev nD := ⟨(c.val + 1) % 4, Nat.mod_lt _ (by decide)⟩
set_option backward.proofsInPublic true in
/-- The left neighbour. -/
def lf (c : Dev nD) : Dev nD := ⟨(c.val + 3) % 4, Nat.mod_lt _ (by decide)⟩
set_option backward.proofsInPublic true in
/-- The opposite device. -/
def dg (c : Dev nD) : Dev nD := ⟨(c.val + 2) % 4, Nat.mod_lt _ (by decide)⟩

theorem rt_lf (c : Dev nD) : rt (lf c) = c := by revert c; decide
theorem lf_rt (c : Dev nD) : lf (rt c) = c := by revert c; decide
theorem dg_dg (c : Dev nD) : dg (dg c) = c := by revert c; decide
theorem lf_lf (c : Dev nD) : lf (lf c) = dg c := by revert c; decide
theorem rt_rt (c : Dev nD) : rt (rt c) = dg c := by revert c; decide
theorem dg_rt (c : Dev nD) : dg (rt c) = lf c := by revert c; decide
theorem dg_lf (c : Dev nD) : dg (lf c) = rt c := by revert c; decide

theorem dev1_eq (c : Dev nD) : (⟨k0_dev1 c, k0_dev1_lt c⟩ : Dev nD) = lf c := Fin.ext (k0_dev1_eq c)
theorem dev2_eq (c : Dev nD) : (⟨k0_dev2 c, k0_dev2_lt c⟩ : Dev nD) = rt c := Fin.ext (k0_dev2_eq c)
theorem dev3_eq (c : Dev nD) : (⟨k0_dev3 c, k0_dev3_lt c⟩ : Dev nD) = rt c := Fin.ext (k0_dev3_eq c)
theorem dev4_eq (c : Dev nD) : (⟨k0_dev4 c, k0_dev4_lt c⟩ : Dev nD) = lf c := Fin.ext (k0_dev4_eq c)
theorem dev5_eq (c : Dev nD) : (⟨k0_dev5 c, k0_dev5_lt c⟩ : Dev nD) = rt c := Fin.ext (k0_dev5_eq c)
theorem dev6_eq (c : Dev nD) : (⟨k0_dev6 c, k0_dev6_lt c⟩ : Dev nD) = lf c := Fin.ext (k0_dev6_eq c)
theorem dev7_eq (c : Dev nD) : (⟨k0_dev7 c, k0_dev7_lt c⟩ : Dev nD) = rt c := Fin.ext (k0_dev7_eq c)
theorem dev8_eq (c : Dev nD) : (⟨k0_dev8 c, k0_dev8_lt c⟩ : Dev nD) = lf c := Fin.ext (k0_dev8_eq c)
theorem dev9_eq (c : Dev nD) : (⟨k0_dev9 c, k0_dev9_lt c⟩ : Dev nD) = dg c := Fin.ext (k0_dev9_eq c)

/-- One step to the right, as a permutation of the devices; and to the opposite device. -/
def ring : Dev nD ≃ Dev nD := ⟨rt, lf, lf_rt, rt_lf⟩
def ringL : Dev nD ≃ Dev nD := ⟨lf, rt, rt_lf, lf_rt⟩
def ringD : Dev nD ≃ Dev nD := ⟨dg, dg, dg_dg, dg_dg⟩

/-! ## The memrefs -/

abbrev xM : Memref sig .tc .hbm S1024x4096 .f32 := Memref.whole main_arg0
abbrev wM : Memref sig .tc .vmem S4096x512 .f32 := Memref.whole cc0_stg0_0
abbrev oM : Memref sig .tc .vmem S4096x512 .f32 := Memref.whole cc0_stg1_0
abbrev bM : Memref sig .tc .vmem S1024x4096 .bf16 := Memref.whole cc0_scratch0
abbrev wbM : Memref sig .tc .vmem S4096x512 .bf16 := Memref.whole cc0_scratch1
abbrev gM : Memref sig .tc .vmem S2x256x4096 .f32 := Memref.whole cc0_scratch2
abbrev lM : Memref sig .tc .vmem S1024x4096 .bf16 := Memref.whole cc0_scratch3
abbrev rM : Memref sig .tc .vmem S1024x4096 .bf16 := Memref.whole cc0_scratch4
abbrev dM : Memref sig .tc .vmem S1024x4096 .bf16 := Memref.whole cc0_scratch5
abbrev sM : Memref sig .tc .vmem S4x8x128 .f32 := Memref.whole cc0_scratch6

/-- The four chunks of 256 rows of the device's own block. -/
abbrev xR0 : Rect S1024x4096 := Rect.unit (s := S1024x4096) ![0, 0] S256x4096.size inb_S1024x4096_S256x4096_0_0
abbrev xR1 : Rect S1024x4096 := Rect.unit (s := S1024x4096) ![256, 0] S256x4096.size inb_S1024x4096_S256x4096_256_0
abbrev xR2 : Rect S1024x4096 := Rect.unit (s := S1024x4096) ![512, 0] S256x4096.size inb_S1024x4096_S256x4096_512_0
abbrev xR3 : Rect S1024x4096 := Rect.unit (s := S1024x4096) ![768, 0] S256x4096.size inb_S1024x4096_S256x4096_768_0
abbrev xS0 : Memref sig .tc .hbm S256x4096 .f32 := xM.slice xR0 (fun _ => rfl)
abbrev xS1 : Memref sig .tc .hbm S256x4096 .f32 := xM.slice xR1 (fun _ => rfl)
abbrev xS2 : Memref sig .tc .hbm S256x4096 .f32 := xM.slice xR2 (fun _ => rfl)
abbrev xS3 : Memref sig .tc .hbm S256x4096 .f32 := xM.slice xR3 (fun _ => rfl)

/-- The two slots of the staging buffer. -/
abbrev gR0 : Rect S2x256x4096 := Rect.unit (s := S2x256x4096) ![0, 0, 0] S1x256x4096.size inb_S2x256x4096_S1x256x4096_0_0_0
abbrev gR1 : Rect S2x256x4096 := Rect.unit (s := S2x256x4096) ![1, 0, 0] S1x256x4096.size inb_S2x256x4096_S1x256x4096_1_0_0
abbrev gS0 : Memref sig .tc .vmem S256x4096 .f32 := (gM.slice gR0 (fun _ => rfl)).squeeze S256x4096 squeezes_S1x256x4096_S256x4096
abbrev gS1 : Memref sig .tc .vmem S256x4096 .f32 := (gM.slice gR1 (fun _ => rfl)).squeeze S256x4096 squeezes_S1x256x4096_S256x4096

/-- The upper and the lower half of a block of rows. -/
abbrev hR0 : Rect S1024x4096 := Rect.unit (s := S1024x4096) ![0, 0] S512x4096.size inb_S1024x4096_S512x4096_0_0
abbrev hR1 : Rect S1024x4096 := Rect.unit (s := S1024x4096) ![512, 0] S512x4096.size inb_S1024x4096_S512x4096_512_0
abbrev dS0 : Memref sig .tc .vmem S512x4096 .bf16 := dM.slice hR0 (fun _ => rfl)
abbrev dS1 : Memref sig .tc .vmem S512x4096 .bf16 := dM.slice hR1 (fun _ => rfl)
abbrev lS0 : Memref sig .tc .vmem S512x4096 .bf16 := lM.slice hR0 (fun _ => rfl)
abbrev rS1 : Memref sig .tc .vmem S512x4096 .bf16 := rM.slice hR1 (fun _ => rfl)

/-- The four slots of the maxima. -/
abbrev sR0 : Rect S4x8x128 := Rect.unit (s := S4x8x128) ![0, 0, 0] S1x8x128.size inb_S4x8x128_S1x8x128_0_0_0
abbrev sR1 : Rect S4x8x128 := Rect.unit (s := S4x8x128) ![1, 0, 0] S1x8x128.size inb_S4x8x128_S1x8x128_1_0_0
abbrev sR2 : Rect S4x8x128 := Rect.unit (s := S4x8x128) ![2, 0, 0] S1x8x128.size inb_S4x8x128_S1x8x128_2_0_0
abbrev sR3 : Rect S4x8x128 := Rect.unit (s := S4x8x128) ![3, 0, 0] S1x8x128.size inb_S4x8x128_S1x8x128_3_0_0
abbrev sS0 : Memref sig .tc .vmem S8x128 .f32 := (sM.slice sR0 (fun _ => rfl)).squeeze S8x128 squeezes_S1x8x128_S8x128
abbrev sS1 : Memref sig .tc .vmem S8x128 .f32 := (sM.slice sR1 (fun _ => rfl)).squeeze S8x128 squeezes_S1x8x128_S8x128
abbrev sS2 : Memref sig .tc .vmem S8x128 .f32 := (sM.slice sR2 (fun _ => rfl)).squeeze S8x128 squeezes_S1x8x128_S8x128
abbrev sS3 : Memref sig .tc .vmem S8x128 .f32 := (sM.slice sR3 (fun _ => rfl)).squeeze S8x128 squeezes_S1x8x128_S8x128

/-- The elements of a memref on device `c`, held at the share `q` with contents `f`. -/
abbrev held (c : Dev nD) {sp : Space} {s : Shape} {e : EltTy} (v : Memref sig .tc sp s e) (q : PosShare TreeShare)
    (f : Buf (Elt F) (v.view.loc (c : Thread nD τ))) : sProp 𝕄 :=
  v.view.loc (c : Thread nD τ) ↦[v.view.set]{q} f

/-- The elements of a memref on device `c`, all of them at some contents. -/
def heldAny (c : Dev nD) {sp : Space} {s : Shape} {e : EltTy} (v : Memref sig .tc sp s e) : sProp 𝕄 :=
  iprop(∃ f : Buf (Elt F) (v.view.loc (c : Thread nD τ)), v.view.loc (c : Thread nD τ) ↦[v.view.set]{fullShare} f)

instance heldAny_storable (c : Dev nD) {sp : Space} {s : Shape} {e : EltTy} (v : Memref sig .tc sp s e) :
    BI.Storable (upEmb : UEmb _ 𝕄) (heldAny (F := F) c v) := by unfold heldAny; infer_instance

/-! ## The cells -/

/-- The barrier semaphore. -/
abbrev barS : Sem sig := (SemArray.scalar (sig.barrier 0 rfl) : Sems sig S_).sem

/-- The kernel's own DMA semaphores: the pool's from 2. -/
abbrev osem (k : Fin 16) : SemLoc sig := .dma ⟨k.val + 2, by show _ < 18; omega⟩
/-- All the cells' semaphores of a device: the barrier, then the sixteen. -/
abbrev csem (k : Fin 17) : SemLoc sig := if h : k.val = 0 then .reg barS else .dma ⟨k.val + 1, by show _ < 18; omega⟩
abbrev kcell (ck : Dev nD × Fin 17) : GSem nD τ sig := ((ck.1 : Thread nD τ), csem ck.2)

/-- A semaphore's number: 0 for the barrier, one more than its place in the pool for a DMA semaphore. -/
def kOf : SemLoc sig → ℕ
  | .reg _ => 0
  | .dma s => s.val + 1

abbrev bar (c : Dev nD) : GSem nD τ sig := ((c : Thread nD τ), .reg barS)
abbrev cell (c : Dev nD) (s : DmaSem sig) : GSem nD τ sig := ((c : Thread nD τ), .dma s)

/-- The credits: of a chunk of 256 rows staged, of a whole block of rows, of half a block, of a slot of maxima. -/
abbrev NG : ℕ := (gS0 : Memref sig .tc .vmem S256x4096 .f32).view.dmaCredit
abbrev NB : ℕ := (lM : Memref sig .tc .vmem S1024x4096 .bf16).view.dmaCredit
abbrev NH : ℕ := (dS0 : Memref sig .tc .vmem S512x4096 .bf16).view.dmaCredit
abbrev NS : ℕ := (sS1 : Memref sig .tc .vmem S8x128 .f32).view.dmaCredit
theorem NG_pos : 0 < NG := View.dmaCredit_pos _ (by decide)
theorem NB_pos : 0 < NB := View.dmaCredit_pos _ (by decide)
theorem NH_pos : 0 < NH := View.dmaCredit_pos _ (by decide)
theorem NS_pos : 0 < NS := View.dmaCredit_pos _ (by decide)

/-! ## Contents -/

/-- The device's block of the first argument as launched. -/
abbrev xAt (c : Dev nD) : (main_arg0 : Ref sig .tc).ty.Contents (Elt F) := m ((c : Thread nD τ).loc main_arg0)

/-- The block of the second argument, as the pipeline stages it. -/
def wstg (c : Dev nD) : (cc0_stg0_0 : Ref sig .tc).ty.Contents (Elt F) :=
  (win0_0.blk (0 : Fin 1)).view.read (Elt F) (m ((c : Thread nD τ).loc main_arg1))

/-- The rows in half precision: what the device sends round. -/
def xbAt (c : Dev nD) : Vec F S1024x4096 .bf16 :=
  truncf .bf16 (m ((c : Thread nD τ).loc main_arg0) : FVec F S1024x4096 .f32) bitsLt_bf16_f32

/-- The columns in half precision. -/
def wbAt (c : Dev nD) : Vec F S4096x512 .bf16 := k0_pay8 (wstg m c)

/-- The product of device `j`'s rows with device `c`'s columns. -/
def yAt (c j : Dev nD) : Vec F S1024x512 .f32 := k0_pay9 (xbAt m j) (wbAt m c)

/-- The largest magnitude in device `c`'s columns of the product, gathered in the kernel's order. -/
def amax (c : Dev nD) : F .f32 :=
  k0_pay16 (k0_pay14 (k0_pay12 (k0_pay10 (yAt m c c)) (yAt m c (lf c))) (yAt m c (rt c))) (yAt m c (dg c))

/-- The four maxima as device `c` lays them out. -/
def scAt (c : Dev nD) : Vec F S4x8x128 .f32 := fun i =>
  if (i 0).val = 0 then amax m c else if (i 0).val = 1 then amax m (lf c) else if (i 0).val = 2 then amax m (rt c) else amax m (dg c)

/-- Chunk `j` of the kernel's result on device `c`. -/
def outCh (c j : Dev nD) : Vec F S1024x512 .f32 :=
  k0_pay2 (k0_pay19 (scAt m c)) (k0_pay20 (scAt m c)) (yAt m c j)

/-- Four chunks of 1024 rows, one on another. -/
def stack (f : Dev nD → Vec F S1024x512 .f32) : Vec F S4096x512 .f32 := fun i =>
  f ⟨(i 0).val / 1024, by have h : (i 0).val < 4096 := (i 0).isLt; show _ < 4; omega⟩
    (fun a => match a with
      | ⟨0, _⟩ => ⟨(i 0).val % 1024, Nat.mod_lt _ (by decide)⟩
      | ⟨1, _⟩ => i 1)

/-- The kernel's result on device `c`. -/
def outAt (c : Dev nD) : Vec F S4096x512 .f32 := stack (outCh m c)

/-! ## What the cells hand over -/

/-- From the left neighbour: its buffer for rows from the right, the lower half of its buffer for the opposite device's
    rows, its third and fourth slots of maxima. -/
def barPayF (c : Dev nD) : sProp 𝕄 :=
  iprop(heldAny (lf c) rM ∗ heldAny (lf c) dS1 ∗ heldAny (lf c) sS2 ∗ heldAny (lf c) sS3)
/-- From the right neighbour: its buffer for rows from the left, the upper half of its buffer for the opposite device's
    rows, its second slot of maxima. -/
def barPayT (c : Dev nD) : sProp 𝕄 :=
  iprop(heldAny (rt c) lM ∗ heldAny (rt c) dS0 ∗ heldAny (rt c) sS1)

/-- A staged chunk: the slot holding the chunk, and the chunk back. -/
def stgPay (c : Dev nD) (q : PosShare TreeShare) (g : Memref sig .tc .vmem S256x4096 .f32) (v : Memref sig .tc .hbm S256x4096 .f32)
    (f : Buf (Elt F) (v.view.loc (c : Thread nD τ))) : sProp 𝕄 :=
  iprop((∃ fd, held c g fullShare (g.view.write (Elt F) fd (v.view.read (Elt F) f) Finset.univ)) ∗ held c v q f)

/-- The shares at which the rows in half precision are lent out: to the right, to the left; and the one kept. -/
abbrev qA : PosShare TreeShare := (fullShare : PosShare TreeShare).left
abbrev qB : PosShare TreeShare := (fullShare : PosShare TreeShare).right.left
abbrev qC : PosShare TreeShare := (fullShare : PosShare TreeShare).right.right
abbrev qL : PosShare TreeShare := (fullShare : PosShare TreeShare).left
abbrev qR : PosShare TreeShare := (fullShare : PosShare TreeShare).right

/-- What cell number `k` of device `c` hands over for duty `d` of round `r`. -/
def payK (c : Dev nD) : ℕ → ℕ → Bool → sProp 𝕄
  | 0, _, false => barPayF c
  | 0, _, true => barPayT c
  | 3, 0, _ => stgPay c qL gS0 xS0 (xAt m c)
  | 3, _, _ => stgPay c qL gS0 xS2 (xAt m c)
  | 4, 0, _ => stgPay c qR gS1 xS1 (xAt m c)
  | 4, _, _ => stgPay c qR gS1 xS3 (xAt m c)
  | 5, _, _ => held c bM qA (xbAt m c)
  | 6, _, _ => held c bM qB (xbAt m c)
  | 7, _, _ => held c lS0 qL (xbAt m (lf c))
  | 8, _, _ => held c rS1 qL (xbAt m (rt c))
  | 9, _, _ => iprop(held c lM fullShare (xbAt m (lf c)) ∗ heldAny (dg c) sS3)
  | 10, _, _ => held c rM fullShare (xbAt m (rt c))
  | 11, _, _ => held c dS0 fullShare (xbAt m (dg c))
  | 12, _, _ => held c dS1 fullShare (xbAt m (dg c))
  | 13, _, _ => held c sS0 qA (scAt m c)
  | 14, _, _ => held c sS0 qB (scAt m c)
  | 15, _, _ => held c sS0 qC (scAt m c)
  | 16, _, _ => held c sS1 fullShare (scAt m c)
  | 17, _, _ => held c sS2 fullShare (scAt m c)
  | 18, _, _ => held c sS3 fullShare (scAt m c)
  | _, _, _ => iprop(emp)

/-- The amount of a duty of cell number `k`. -/
def amtK : ℕ → ℕ
  | 0 => 1
  | 3 | 4 => NG
  | 5 | 6 | 9 | 10 => NB
  | 7 | 8 | 11 | 12 => NH
  | _ => NS

theorem amtK_pos (k : ℕ) : 0 < amtK k := by
  unfold amtK
  split
  · exact Nat.one_pos
  all_goals first | exact NG_pos | exact NB_pos | exact NH_pos | exact NS_pos

/-- The duties of round `r` of cell number `k`: the barrier has two, the staged copies one in each of two rounds, the
    others one in round 0. -/
def dutK : ℕ → ℕ → Finset Bool
  | 0, 0 => Finset.univ
  | 3, 0 | 4, 0 | 3, 1 | 4, 1 => {false}
  | 5, 0 | 6, 0 | 7, 0 | 8, 0 | 9, 0 | 10, 0 | 11, 0 | 12, 0 | 13, 0 | 14, 0 | 15, 0 | 16, 0 | 17, 0 | 18, 0 => {false}
  | _, _ => ∅

/-- The schedule of all the cells. -/
def Rd : Rounds.Schedule (GSem nD τ sig) Bool 𝕄 where
  duties g r := dutK (kOf g.2) r
  unitless _ := False
  amount g _ _ := amtK (kOf g.2)
  payload g r d := payK m g.1.1 (kOf g.2) r d
  amount_pos g _ _ _ := amtK_pos _

instance stgPay_storable (c : Dev nD) (q g v f) : BI.Storable (upEmb : UEmb _ 𝕄) (stgPay (F := F) c q g v f) := by
  unfold stgPay; infer_instance

instance Rd_payload_storable (g : GSem nD τ sig) (r : ℕ) (d : Bool) :
    BI.Storable (upEmb : UEmb _ 𝕄) ((Rd (F := F) m).payload g r d) := by
  show BI.Storable upEmb (payK m g.1.1 (kOf g.2) r d)
  unfold payK barPayF barPayT
  split <;> infer_instance

/-- No duty is left in a cell from round 2 on, -/
theorem dutK_two (k : ℕ) : ∀ r, 2 ≤ r → dutK k r = ∅ := fun r hr => by
  unfold dutK
  split <;> first | rfl | omega
/-- nor from round 1 on in one that is no staged copy's. -/
theorem dutK_one (k : ℕ) (h3 : k ≠ 3) (h4 : k ≠ 4) : ∀ r, 1 ≤ r → dutK k r = ∅ := fun r hr => by
  unfold dutK
  split <;> first | rfl | omega

/-- A round of one duty: what it expects. -/
theorem expect_one (g : GSem nD τ sig) (r : ℕ) (h : dutK (kOf g.2) r = {false}) : (Rd (F := F) m).expect g r = amtK (kOf g.2) := by
  unfold Schedule.expect Schedule.amountOf
  show ∑ d ∈ dutK (kOf g.2) r, amtK (kOf g.2) = _
  rw [h, Finset.sum_singleton]
/-- A round of one duty: what its end brings. -/
theorem rest_one (g : GSem nD τ sig) (r : ℕ) (h : dutK (kOf g.2) r = {false}) :
    bigSep ((Rd (F := F) m).duties g r \ ∅) (fun d => (Rd (F := F) m).payload g r d) = payK m g.1.1 (kOf g.2) r false := by
  show bigSep (dutK (kOf g.2) r \ ∅) (fun d => payK m g.1.1 (kOf g.2) r d) = _
  rw [Finset.sdiff_empty, h, bigSep_singleton]
theorem expect_bar (c : Dev nD) : (Rd (F := F) m).expect (bar c) 0 = 2 := by
  unfold Schedule.expect Schedule.amountOf
  show ∑ d ∈ (Finset.univ : Finset Bool), 1 = 2
  rfl
theorem rest_bar (c : Dev nD) : bigSep ((Rd (F := F) m).duties (bar c) 0 \ ∅) (fun d => (Rd (F := F) m).payload (bar c) 0 d)
    = iprop(barPayF c ∗ barPayT c) := by
  show bigSep ((Finset.univ : Finset Bool) \ ∅) (fun d => payK m c 0 0 d) = _
  rw [Finset.sdiff_empty, bigSep_univ_eq_bigSepL [false, true] (by decide) (by decide), bigSepL_cons_cons, bigSepL_singleton]
  rfl

/-! ## What each device owes at launch, and the levels -/

/-- The semaphore of the `j`-th debt, counted from the one paid last. -/
def tsem : ℕ → SemLoc sig
  | 0 => .dma 17 | 1 => .dma 16 | 2 => .dma 15
  | 3 => .dma 11 | 4 => .dma 10 | 5 => .dma 9 | 6 => .dma 8
  | _ => .reg barS
/-- The device of the `j`-th debt. -/
def tdev (c : Dev nD) : ℕ → Dev nD
  | 0 => dg c | 1 => lf c | 2 => rt c | 3 => lf c | 4 => rt c | 5 => lf c | 6 => rt c | 7 => rt c | _ => lf c
/-- The `j`-th debt's cell. -/
def tgt (c : Dev nD) (j : ℕ) : GSem nD τ sig := ((tdev c j : Thread nD τ), tsem j)
/-- Its amount. -/
def tam (j : ℕ) : ℕ := amtK (kOf (tsem j))

/-- The last `n` debts of device `c`; all nine of them at launch. -/
def Od (c : Dev nD) : ℕ → CellTallies nD τ sig Unit
  | 0 => 0
  | n + 1 => Od c n + tallyAt (tgt c n) () (tam n)

def L (g : GSem nD τ sig) : Finset Unit := if g.1.2 = .tc then {()} else ∅
/-- The level of cell number `k`: barrier 1, the rows from the neighbours 2, from the opposite device 3, the maxima 4,
    all else 0. -/
def lvK : ℕ → ℕ
  | 0 => 1 | 9 | 10 => 2 | 11 | 12 => 3 | 16 | 17 | 18 => 4 | _ => 0
def lv (g : GSem nD τ sig) (_ : Unit) : ℕ := lvK (kOf g.2)

theorem L_of_ne (g : GSem nD τ sig) (h : g.1.2 ≠ .tc) : L g = ∅ := if_neg h
theorem L_tc (c : Dev nD) (sm : SemLoc sig) : L ((c : Thread nD τ), sm) = {()} := if_pos rfl

theorem Od_pos {c : Dev nD} {n : ℕ} {g : GSem nD τ sig} {u : Unit} (h : 0 < Od c n g u) : ∃ j < n, g = tgt c j := by
  induction n with
  | zero => exact absurd h (Nat.lt_irrefl 0)
  | succ n ih =>
    rw [Od, Pi.add_apply, Finsupp.add_apply, tallyAt_apply] at h
    by_cases hn : g = tgt c n ∧ u = ()
    · exact ⟨n, Nat.lt_succ_self n, hn.1⟩
    · rw [if_neg hn, Nat.add_zero] at h
      obtain ⟨j, hj, hg⟩ := ih h
      exact ⟨j, Nat.lt_succ_of_lt hj, hg⟩

/-- A device that owes its last `n` debts may wait on a semaphore below all their levels. -/
theorem mayWait_of (c : Dev nD) (s : SemLoc sig) (n : ℕ) (h : ∀ j < n, lvK (kOf s) < lvK (kOf (tsem j))) :
    (levAts L lv : sProp 𝕄) ⊢ MayWait (c : Thread nD τ) s () (Od c n) :=
  MayOwe.of_cut (L := L) (lev := lv) (lvK (kOf s)) (fun p hp => by rw [Finset.mem_singleton.mp hp, L_tc]; exact Finset.mem_singleton_self _)
    (fun g u hg => by obtain ⟨j, -, rfl⟩ := Od_pos hg; exact Finset.mem_singleton_self _)
    (fun p hp => by rw [Finset.mem_singleton.mp hp]; exact le_rfl)
    (fun g u hg => by obtain ⟨j, hj, rfl⟩ := Od_pos hg; exact h j hj)

end Cert.KernelProof

end
-- ==== Proof.Contents.lean ====
/-
What the kernel's buffers hold, step by step: what a transfer leaves, what the staged copies leave in the rows in half
precision, and the result as four chunks of rows.
-/
module

public import proofs.«01_k».proof.Proof.Protocol
public import Idealize.ShloMosaic.Lib.Writes
public import Idealize.ShloMosaic.Lib.Pipeline.Value

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Transfers of whole buffers and of halves -/

omit [FloatOps F] in
/-- A whole block of rows sent into the buffer for the left neighbour's is the block, -/
theorem sent_l (fd fs : Vec F S1024x4096 .bf16) :
    (lM : Memref sig .tc .vmem S1024x4096 .bf16).view.write (Elt F) fd ((bM : Memref sig .tc .vmem S1024x4096 .bf16).view.read (Elt F) fs) Finset.univ = fs :=
  View.write_whole_univ _ _ _
omit [FloatOps F] in
/-- and so into the buffer for the right neighbour's. -/
theorem sent_r (fd fs : Vec F S1024x4096 .bf16) :
    (rM : Memref sig .tc .vmem S1024x4096 .bf16).view.write (Elt F) fd ((bM : Memref sig .tc .vmem S1024x4096 .bf16).view.read (Elt F) fs) Finset.univ = fs :=
  View.write_whole_univ _ _ _

omit [FloatOps F] in
/-- The upper half sent on is the same rows, -/
theorem sent_d0 (fd fs : Vec F S1024x4096 .bf16) : ∀ i ∈ (dS0 : Memref sig .tc .vmem S512x4096 .bf16).view.set,
    (dS0 : Memref sig .tc .vmem S512x4096 .bf16).view.write (Elt F) fd ((lS0 : Memref sig .tc .vmem S512x4096 .bf16).view.read (Elt F) fs) Finset.univ i = fs i := by
  intro i hi
  obtain ⟨x, -, rfl⟩ := Finset.mem_map.mp hi
  rw [View.write_emb_of_mem _ _ (Finset.mem_univ x)]
  rfl
omit [FloatOps F] in
/-- and the lower half. -/
theorem sent_d1 (fd fs : Vec F S1024x4096 .bf16) : ∀ i ∈ (dS1 : Memref sig .tc .vmem S512x4096 .bf16).view.set,
    (dS1 : Memref sig .tc .vmem S512x4096 .bf16).view.write (Elt F) fd ((rS1 : Memref sig .tc .vmem S512x4096 .bf16).view.read (Elt F) fs) Finset.univ i = fs i := by
  intro i hi
  obtain ⟨x, -, rfl⟩ := Finset.mem_map.mp hi
  rw [View.write_emb_of_mem _ _ (Finset.mem_univ x)]
  rfl

/-! ## The slots of maxima -/

omit [FloatOps F] in
theorem mem_sS0 (i : S4x8x128.Idx) : i ∈ (sS0 : Memref sig .tc .vmem S8x128 .f32).view.set ↔ (i 0).val = 0 := by
  rw [show (sS0 : Memref sig .tc .vmem S8x128 .f32).view.set = sR0.set from by
    show (((View.whole cc0_scratch6).slice sR0).reshape _ _).set = _
    rw [View.set_reshape, View.set_slice_whole]]
  refine Rect.mem_set_unit.trans ?_
  constructor
  · intro h; have := (h 0).2; change (i 0).val < 0 + 1 at this; omega
  · intro h a; fin_cases a
    · exact ⟨Nat.zero_le _, by show (i 0).val < 0 + 1; omega⟩
    · exact ⟨Nat.zero_le _, by show (i 1).val < 0 + 8; have : (i 1).val < 8 := (i 1).isLt; omega⟩
    · exact ⟨Nat.zero_le _, by show (i 2).val < 0 + 128; have : (i 2).val < 128 := (i 2).isLt; omega⟩
omit [FloatOps F] in
theorem mem_sS1 (i : S4x8x128.Idx) : i ∈ (sS1 : Memref sig .tc .vmem S8x128 .f32).view.set ↔ (i 0).val = 1 := by
  rw [show (sS1 : Memref sig .tc .vmem S8x128 .f32).view.set = sR1.set from by
    show (((View.whole cc0_scratch6).slice sR1).reshape _ _).set = _
    rw [View.set_reshape, View.set_slice_whole]]
  refine Rect.mem_set_unit.trans ?_
  constructor
  · intro h; have h2 := (h 0).2; have h1 := (h 0).1; change (i 0).val < 1 + 1 at h2; change 1 ≤ (i 0).val at h1; omega
  · intro h a; fin_cases a
    · exact ⟨by show 1 ≤ (i 0).val; omega, by show (i 0).val < 1 + 1; omega⟩
    · exact ⟨Nat.zero_le _, by show (i 1).val < 0 + 8; have : (i 1).val < 8 := (i 1).isLt; omega⟩
    · exact ⟨Nat.zero_le _, by show (i 2).val < 0 + 128; have : (i 2).val < 128 := (i 2).isLt; omega⟩
omit [FloatOps F] in
theorem mem_sS2 (i : S4x8x128.Idx) : i ∈ (sS2 : Memref sig .tc .vmem S8x128 .f32).view.set ↔ (i 0).val = 2 := by
  rw [show (sS2 : Memref sig .tc .vmem S8x128 .f32).view.set = sR2.set from by
    show (((View.whole cc0_scratch6).slice sR2).reshape _ _).set = _
    rw [View.set_reshape, View.set_slice_whole]]
  refine Rect.mem_set_unit.trans ?_
  constructor
  · intro h; have h2 := (h 0).2; have h1 := (h 0).1; change (i 0).val < 2 + 1 at h2; change 2 ≤ (i 0).val at h1; omega
  · intro h a; fin_cases a
    · exact ⟨by show 2 ≤ (i 0).val; omega, by show (i 0).val < 2 + 1; omega⟩
    · exact ⟨Nat.zero_le _, by show (i 1).val < 0 + 8; have : (i 1).val < 8 := (i 1).isLt; omega⟩
    · exact ⟨Nat.zero_le _, by show (i 2).val < 0 + 128; have : (i 2).val < 128 := (i 2).isLt; omega⟩
omit [FloatOps F] in
theorem mem_sS3 (i : S4x8x128.Idx) : i ∈ (sS3 : Memref sig .tc .vmem S8x128 .f32).view.set ↔ (i 0).val = 3 := by
  rw [show (sS3 : Memref sig .tc .vmem S8x128 .f32).view.set = sR3.set from by
    show (((View.whole cc0_scratch6).slice sR3).reshape _ _).set = _
    rw [View.set_reshape, View.set_slice_whole]]
  refine Rect.mem_set_unit.trans ?_
  constructor
  · intro h; have h2 := (h 0).2; have h1 := (h 0).1; change (i 0).val < 3 + 1 at h2; change 3 ≤ (i 0).val at h1; omega
  · intro h a; fin_cases a
    · exact ⟨by show 3 ≤ (i 0).val; omega, by show (i 0).val < 3 + 1; omega⟩
    · exact ⟨Nat.zero_le _, by show (i 1).val < 0 + 8; have : (i 1).val < 8 := (i 1).isLt; omega⟩
    · exact ⟨Nat.zero_le _, by show (i 2).val < 0 + 128; have : (i 2).val < 128 := (i 2).isLt; omega⟩

theorem scAt_0 (c : Dev nD) (i : S4x8x128.Idx) (h : (i 0).val = 0) : scAt m c i = amax m c := by
  unfold scAt; rw [if_pos h]
theorem scAt_1 (c : Dev nD) (i : S4x8x128.Idx) (h : (i 0).val = 1) : scAt m c i = amax m (lf c) := by
  unfold scAt; rw [if_neg (by omega), if_pos h]
theorem scAt_2 (c : Dev nD) (i : S4x8x128.Idx) (h : (i 0).val = 2) : scAt m c i = amax m (rt c) := by
  unfold scAt; rw [if_neg (by omega), if_neg (by omega), if_pos h]
theorem scAt_3 (c : Dev nD) (i : S4x8x128.Idx) (h : (i 0).val = 3) : scAt m c i = amax m (dg c) := by
  unfold scAt; rw [if_neg (by omega), if_neg (by omega), if_neg (by omega)]

/-- The maximum stored in the device's own slot. -/
theorem stored_s0 (c : Dev nD) (f : Vec F S4x8x128 .f32) : ∀ i ∈ (sS0 : Memref sig .tc .vmem S8x128 .f32).view.set,
    ((sM : Memref sig .tc .vmem S4x8x128 .f32).access sR0 : View sig .tc _ _ _).write (Elt F) f (k0_pay17 (amax m c)) Finset.univ i = scAt m c i := by
  intro i hi
  rw [scAt_0 m c i ((mem_sS0 i).mp hi)]
  have hi' : i ∈ ((sM : Memref sig .tc .vmem S4x8x128 .f32).access sR0 : View sig .tc _ _ _).set := by
    rw [View.set_reshape] at hi; exact hi
  obtain ⟨x, -, rfl⟩ := Finset.mem_map.mp hi'
  rw [View.write_emb_of_mem _ _ (Finset.mem_univ x)]
  rfl

/-- The maximum sent to the right, -/
theorem sent_s1 (c : Dev nD) (fd : Vec F S4x8x128 .f32) : ∀ i ∈ (sS1 : Memref sig .tc .vmem S8x128 .f32).view.set,
    (sS1 : Memref sig .tc .vmem S8x128 .f32).view.write (Elt F) fd ((sS0 : Memref sig .tc .vmem S8x128 .f32).view.read (Elt F) (scAt m c)) Finset.univ i = scAt m (rt c) i := by
  intro i hi
  rw [scAt_1 m (rt c) i ((mem_sS1 i).mp hi), lf_rt]
  obtain ⟨x, -, rfl⟩ := Finset.mem_map.mp hi
  rw [View.write_emb_of_mem _ _ (Finset.mem_univ x)]
  exact scAt_0 m c _ ((mem_sS0 _).mp (View.emb_mem_set (v := (sS0 : Memref sig .tc .vmem S8x128 .f32).view) x))
/-- to the left, -/
theorem sent_s2 (c : Dev nD) (fd : Vec F S4x8x128 .f32) : ∀ i ∈ (sS2 : Memref sig .tc .vmem S8x128 .f32).view.set,
    (sS2 : Memref sig .tc .vmem S8x128 .f32).view.write (Elt F) fd ((sS0 : Memref sig .tc .vmem S8x128 .f32).view.read (Elt F) (scAt m c)) Finset.univ i = scAt m (lf c) i := by
  intro i hi
  rw [scAt_2 m (lf c) i ((mem_sS2 i).mp hi), rt_lf]
  obtain ⟨x, -, rfl⟩ := Finset.mem_map.mp hi
  rw [View.write_emb_of_mem _ _ (Finset.mem_univ x)]
  exact scAt_0 m c _ ((mem_sS0 _).mp (View.emb_mem_set (v := (sS0 : Memref sig .tc .vmem S8x128 .f32).view) x))
/-- and to the opposite device. -/
theorem sent_s3 (c : Dev nD) (fd : Vec F S4x8x128 .f32) : ∀ i ∈ (sS3 : Memref sig .tc .vmem S8x128 .f32).view.set,
    (sS3 : Memref sig .tc .vmem S8x128 .f32).view.write (Elt F) fd ((sS0 : Memref sig .tc .vmem S8x128 .f32).view.read (Elt F) (scAt m c)) Finset.univ i = scAt m (dg c) i := by
  intro i hi
  rw [scAt_3 m (dg c) i ((mem_sS3 i).mp hi), dg_dg]
  obtain ⟨x, -, rfl⟩ := Finset.mem_map.mp hi
  rw [View.write_emb_of_mem _ _ (Finset.mem_univ x)]
  exact scAt_0 m c _ ((mem_sS0 _).mp (View.emb_mem_set (v := (sS0 : Memref sig .tc .vmem S8x128 .f32).view) x))

/-! ## The halves and the staging slots as sets -/

omit [FloatOps F] in
theorem mem_dS0 (i : S1024x4096.Idx) : i ∈ (dS0 : Memref sig .tc .vmem S512x4096 .bf16).view.set ↔ (i 0).val < 512 := by
  show i ∈ ((View.whole cc0_scratch5).slice hR0).set ↔ _
  rw [View.set_slice_whole, Rect.mem_set_unit]
  constructor
  · intro h; have := (h 0).2; change (i 0).val < 0 + 512 at this; omega
  · intro h a; fin_cases a
    · exact ⟨Nat.zero_le _, by show (i 0).val < 0 + 512; omega⟩
    · exact ⟨Nat.zero_le _, by show (i 1).val < 0 + 4096; have : (i 1).val < 4096 := (i 1).isLt; omega⟩
omit [FloatOps F] in
theorem mem_dS1 (i : S1024x4096.Idx) : i ∈ (dS1 : Memref sig .tc .vmem S512x4096 .bf16).view.set ↔ 512 ≤ (i 0).val := by
  show i ∈ ((View.whole cc0_scratch5).slice hR1).set ↔ _
  rw [View.set_slice_whole, Rect.mem_set_unit]
  constructor
  · intro h; exact (h 0).1
  · intro h a; fin_cases a
    · exact ⟨h, by show (i 0).val < 512 + 512; have : (i 0).val < 1024 := (i 0).isLt; omega⟩
    · exact ⟨Nat.zero_le _, by show (i 1).val < 0 + 4096; have : (i 1).val < 4096 := (i 1).isLt; omega⟩
omit [FloatOps F] in
theorem d_disj : Disjoint (dS0 : Memref sig .tc .vmem S512x4096 .bf16).view.set (dS1 : Memref sig .tc .vmem S512x4096 .bf16).view.set :=
  Finset.disjoint_left.mpr fun i h0 h1 => by have := (mem_dS0 i).mp h0; have := (mem_dS1 i).mp h1; omega
omit [FloatOps F] in
theorem d_union : (dS0 : Memref sig .tc .vmem S512x4096 .bf16).view.set ∪ (dS1 : Memref sig .tc .vmem S512x4096 .bf16).view.set = Finset.univ :=
  Finset.eq_univ_of_forall fun (i : S1024x4096.Idx) => Finset.mem_union.mpr <| by
    rcases Nat.lt_or_ge (i 0).val 512 with h | h
    · exact .inl ((mem_dS0 i).mpr h)
    · exact .inr ((mem_dS1 i).mpr h)

omit [FloatOps F] in
theorem gS0_set : (gS0 : Memref sig .tc .vmem S256x4096 .f32).view.set = gR0.set := by
  show (((View.whole cc0_scratch2).slice gR0).reshape _ _).set = _
  rw [View.set_reshape, View.set_slice_whole]
omit [FloatOps F] in
theorem gS1_set : (gS1 : Memref sig .tc .vmem S256x4096 .f32).view.set = gR1.set := by
  show (((View.whole cc0_scratch2).slice gR1).reshape _ _).set = _
  rw [View.set_reshape, View.set_slice_whole]
omit [FloatOps F] in
theorem g_disj : Disjoint (gS0 : Memref sig .tc .vmem S256x4096 .f32).view.set (gS1 : Memref sig .tc .vmem S256x4096 .f32).view.set := by
  rw [gS0_set, gS1_set]
  refine Finset.disjoint_left.mpr fun (i : S2x256x4096.Idx) h0 h1 => ?_
  have h0 := (Rect.mem_set_unit.mp h0 0).2; have h1 := (Rect.mem_set_unit.mp h1 0).1
  change (i 0).val < 0 + 1 at h0; change 1 ≤ (i 0).val at h1; omega

/-- The staging buffer is its two slots. -/
theorem g_split (c : Dev nD) (f : Buf (Elt F) ((c : Thread nD τ).loc cc0_scratch2)) :
    (((c : Thread nD τ).loc cc0_scratch2) ↦{fullShare} f : sProp 𝕄)
      ⊢ iprop(held c gS0 fullShare f ∗ held c gS1 fullShare f ∗ ((c : Thread nD τ).loc cc0_scratch2) ↦[(Finset.univ \ (gS0 : Memref sig .tc .vmem S256x4096 .f32).view.set) \ (gS1 : Memref sig .tc .vmem S256x4096 .f32).view.set]{fullShare} f) := by
  iintro H
  ihave H := (pointsTo_split_subset (I := (gS0 : Memref sig .tc .vmem S256x4096 .f32).view.set) (Finset.subset_univ _)).1 $$ H
  icases H with ⟨H0, H⟩
  ihave H := (pointsTo_split_subset (I := (gS1 : Memref sig .tc .vmem S256x4096 .f32).view.set) (fun i hi => Finset.mem_sdiff.mpr ⟨Finset.mem_univ _, fun h => Finset.disjoint_left.mp g_disj h hi⟩)).1 $$ H
  icases H with ⟨H1, H2⟩
  isplitl [H0]; · iexact H0
  isplitl [H1]; · iexact H1
  iexact H2

/-! ## The staged rows -/

/-- A chunk staged, loaded and narrowed, -/
theorem pay4_eq (fd : (cc0_scratch2 : Ref sig .tc).ty.Contents (Elt F)) (w : Vec F S256x4096 .f32) :
    k0_pay4 ((gM : Memref sig .tc .vmem S2x256x4096 .f32).view.readAt (Elt F) gR0.toLoadRect ((gS0 : Memref sig .tc .vmem S256x4096 .f32).view.write (Elt F) fd w Finset.univ))
      = truncf .bf16 (w : FVec F S256x4096 .f32) bitsLt_bf16_f32 := by
  unfold k0_pay4
  dsimp only
  rw [shapeCast_self]
  refine congrArg (fun v => truncf .bf16 v bitsLt_bf16_f32) ?_
  exact View.read_write_univ (v := (gS0 : Memref sig .tc .vmem S256x4096 .f32).view) fd w
/-- and so in the other slot, -/
theorem pay5_eq (fd : (cc0_scratch2 : Ref sig .tc).ty.Contents (Elt F)) (w : Vec F S256x4096 .f32) :
    k0_pay5 ((gM : Memref sig .tc .vmem S2x256x4096 .f32).view.readAt (Elt F) gR1.toLoadRect ((gS1 : Memref sig .tc .vmem S256x4096 .f32).view.write (Elt F) fd w Finset.univ))
      = truncf .bf16 (w : FVec F S256x4096 .f32) bitsLt_bf16_f32 := by
  unfold k0_pay5
  dsimp only
  rw [shapeCast_self]
  refine congrArg (fun v => truncf .bf16 v bitsLt_bf16_f32) ?_
  exact View.read_write_univ (v := (gS1 : Memref sig .tc .vmem S256x4096 .f32).view) fd w
/-- the third and the fourth chunk the same. -/
theorem pay6_eq (fd : (cc0_scratch2 : Ref sig .tc).ty.Contents (Elt F)) (w : Vec F S256x4096 .f32) :
    k0_pay6 ((gM : Memref sig .tc .vmem S2x256x4096 .f32).view.readAt (Elt F) gR0.toLoadRect ((gS0 : Memref sig .tc .vmem S256x4096 .f32).view.write (Elt F) fd w Finset.univ))
      = truncf .bf16 (w : FVec F S256x4096 .f32) bitsLt_bf16_f32 := pay4_eq fd w
theorem pay7_eq (fd : (cc0_scratch2 : Ref sig .tc).ty.Contents (Elt F)) (w : Vec F S256x4096 .f32) :
    k0_pay7 ((gM : Memref sig .tc .vmem S2x256x4096 .f32).view.readAt (Elt F) gR1.toLoadRect ((gS1 : Memref sig .tc .vmem S256x4096 .f32).view.write (Elt F) fd w Finset.univ))
      = truncf .bf16 (w : FVec F S256x4096 .f32) bitsLt_bf16_f32 := pay5_eq fd w

/-- The four chunks narrowed. -/
abbrev ch0 (c : Dev nD) : Vec F S256x4096 .bf16 := truncf .bf16 ((xS0 : Memref sig .tc .hbm S256x4096 .f32).view.read (Elt F) (xAt m c) : FVec F S256x4096 .f32) bitsLt_bf16_f32
abbrev ch1 (c : Dev nD) : Vec F S256x4096 .bf16 := truncf .bf16 ((xS1 : Memref sig .tc .hbm S256x4096 .f32).view.read (Elt F) (xAt m c) : FVec F S256x4096 .f32) bitsLt_bf16_f32
abbrev ch2 (c : Dev nD) : Vec F S256x4096 .bf16 := truncf .bf16 ((xS2 : Memref sig .tc .hbm S256x4096 .f32).view.read (Elt F) (xAt m c) : FVec F S256x4096 .f32) bitsLt_bf16_f32
abbrev ch3 (c : Dev nD) : Vec F S256x4096 .bf16 := truncf .bf16 ((xS3 : Memref sig .tc .hbm S256x4096 .f32).view.read (Elt F) (xAt m c) : FVec F S256x4096 .f32) bitsLt_bf16_f32

/-- The buffer of the rows in half precision after one, two, ... chunks. -/
abbrev xb1 (c : Dev nD) (f : Vec F S1024x4096 .bf16) : Vec F S1024x4096 .bf16 :=
  ((bM : Memref sig .tc .vmem S1024x4096 .bf16).access xR0 : View sig .tc _ _ _).write (Elt F) f (ch0 m c) Finset.univ
abbrev xb2 (c : Dev nD) (f : Vec F S1024x4096 .bf16) : Vec F S1024x4096 .bf16 :=
  ((bM : Memref sig .tc .vmem S1024x4096 .bf16).access xR1 : View sig .tc _ _ _).write (Elt F) (xb1 m c f) (ch1 m c) Finset.univ
abbrev xb3 (c : Dev nD) (f : Vec F S1024x4096 .bf16) : Vec F S1024x4096 .bf16 :=
  ((bM : Memref sig .tc .vmem S1024x4096 .bf16).access xR2 : View sig .tc _ _ _).write (Elt F) (xb2 m c f) (ch2 m c) Finset.univ
abbrev xb4 (c : Dev nD) (f : Vec F S1024x4096 .bf16) : Vec F S1024x4096 .bf16 :=
  ((bM : Memref sig .tc .vmem S1024x4096 .bf16).access xR3 : View sig .tc _ _ _).write (Elt F) (xb3 m c f) (ch3 m c) Finset.univ

omit [FloatOps F] in
/-- A row between `o` and `o + 256` lies in the chunk at `o`. -/
theorem mem_xR (o : ℕ) (inb) (y : S1024x4096.Idx) (h1 : o ≤ (y 0).val) (h2 : (y 0).val < o + 256) :
    y ∈ (Rect.unit (s := S1024x4096) ![o, 0] S256x4096.size inb).set :=
  Rect.mem_set_unit.mpr fun a => by
    fin_cases a
    · exact ⟨h1, h2⟩
    · exact ⟨Nat.zero_le _, by show (y 1).val < 0 + 4096; have : (y 1).val < 4096 := (y 1).isLt; omega⟩

/-- After all four it holds the whole block narrowed. -/
theorem xb4_eq (c : Dev nD) (f : Vec F S1024x4096 .bf16) : xb4 m c f = xbAt m c := by
  funext y
  have key := View.read_writes_apply_of_pieces (View.whole cc0_scratch0) f (xbAt m c)
    [⟨xR3, ch3 m c⟩, ⟨xR2, ch2 m c⟩, ⟨xR1, ch1 m c⟩, ⟨xR0, ch0 m c⟩] ?_ y ?_
  · rw [View.read_whole] at key
    exact key
  · intro p hp x
    simp only [List.mem_cons, List.not_mem_nil, or_false] at hp
    rcases hp with rfl | rfl | rfl | rfl <;> rfl
  · have hy : (y 0).val < 1024 := (y 0).isLt
    by_cases h0 : (y 0).val < 256
    · exact ⟨⟨xR0, ch0 m c⟩, List.mem_cons_of_mem _ (List.mem_cons_of_mem _ (List.mem_cons_of_mem _ List.mem_cons_self)), mem_xR 0 (by intro a; fin_cases a <;> decide) y (Nat.zero_le _) (by omega)⟩
    by_cases h1 : (y 0).val < 512
    · exact ⟨⟨xR1, ch1 m c⟩, List.mem_cons_of_mem _ (List.mem_cons_of_mem _ List.mem_cons_self), mem_xR 256 (by intro a; fin_cases a <;> decide) y (by omega) (by omega)⟩
    by_cases h2 : (y 0).val < 768
    · exact ⟨⟨xR2, ch2 m c⟩, List.mem_cons_of_mem _ List.mem_cons_self, mem_xR 512 (by intro a; fin_cases a <;> decide) y (by omega) (by omega)⟩
    · exact ⟨⟨xR3, ch3 m c⟩, List.mem_cons_self, mem_xR 768 (by intro a; fin_cases a <;> decide) y (by omega) (by omega)⟩

/-! ## The result in chunks of rows -/

/-- A stack of chunks read at chunk `k` is that chunk. -/
theorem stack_emb (f : Dev nD → Vec F S1024x512 .f32) (k : Dev nD) (off : Fin 2 → ℕ) (h : off = ![1024 * k.val, 0]) (inb)
    (x : S1024x512.Idx) : stack f ((Rect.unit (s := S4096x512) off S1024x512.size inb).emb x) = f k x := by
  subst h
  have hx : (x 0).val < 1024 := (x 0).isLt
  have h0 : ((Rect.unit (s := S4096x512) ![1024 * k.val, 0] S1024x512.size inb).emb x 0).val = 1024 * k.val + (x 0).val := by
    rw [Rect.emb_apply]; show 1024 * k.val + 1 * (x 0).val = _; omega
  have h1 : ((Rect.unit (s := S4096x512) ![1024 * k.val, 0] S1024x512.size inb).emb x 1).val = (x 1).val := by
    rw [Rect.emb_apply]; show 0 + 1 * (x 1).val = _; omega
  unfold stack
  congr 1
  · exact Fin.ext (by show _ / 1024 = k.val; rw [h0]; omega)
  · funext a; fin_cases a
    · exact Fin.ext (by show _ % 1024 = (x 0).val; rw [h0]; omega)
    · exact Fin.ext h1

/-- So a load of chunk `k`. -/
theorem stack_read (f : Dev nD → Vec F S1024x512 .f32) (k : Dev nD) (off : Fin 2 → ℕ) (h : off = ![1024 * k.val, 0]) (inb) :
    (oM : Memref sig .tc .vmem S4096x512 .f32).view.readAt (Elt F) (Rect.unit (s := S4096x512) off S1024x512.size inb).toLoadRect (stack f) = f k :=
  funext fun x => stack_emb f k off h inb x

omit [FloatOps F] in
/-- A load of chunk `k` does not see a store into another chunk, -/
theorem chunk_miss (g : Vec F S4096x512 .f32) (w : Vec F S1024x512 .f32) (k j : ℕ) (hkj : k < j ∨ j < k) (off off' : Fin 2 → ℕ)
    (h : off = ![1024 * k, 0]) (h' : off' = ![1024 * j, 0]) (inb inb') :
    (oM : Memref sig .tc .vmem S4096x512 .f32).view.readAt (Elt F) (Rect.unit (s := S4096x512) off S1024x512.size inb).toLoadRect
      (((oM : Memref sig .tc .vmem S4096x512 .f32).access (Rect.unit (s := S4096x512) off' S1024x512.size inb') : View sig .tc _ _ _).write (Elt F) g w Finset.univ)
      = (oM : Memref sig .tc .vmem S4096x512 .f32).view.readAt (Elt F) (Rect.unit (s := S4096x512) off S1024x512.size inb).toLoadRect g := by
  subst h h'
  funext x
  refine View.write_of_not_mem _ _ _ ?_
  intro hi
  obtain ⟨x', -, hx⟩ := Finset.mem_map.mp hi
  have e := congrArg (fun i : S4096x512.Idx => (i 0).val) hx
  have a : (x 0).val < 1024 := (x 0).isLt
  have b : (x' 0).val < 1024 := (x' 0).isLt
  have e' : 1024 * j + 1 * (x' 0).val = 1024 * k + 1 * (x 0).val := e
  omega

omit [FloatOps F] in
/-- and sees the one into its own. -/
theorem chunk_hit (g : Vec F S4096x512 .f32) (w : Vec F S1024x512 .f32) (off : Fin 2 → ℕ) (inb inb') :
    (oM : Memref sig .tc .vmem S4096x512 .f32).view.readAt (Elt F) (Rect.unit (s := S4096x512) off S1024x512.size inb).toLoadRect
      (((oM : Memref sig .tc .vmem S4096x512 .f32).access (Rect.unit (s := S4096x512) off S1024x512.size inb') : View sig .tc _ _ _).write (Elt F) g w Finset.univ) = w :=
  View.read_write_univ (v := ((oM : Memref sig .tc .vmem S4096x512 .f32).access (Rect.unit (s := S4096x512) off S1024x512.size inb) : View sig .tc _ _ _)) g w

/-- Four stores, one into each chunk, leave the stack. -/
theorem stack_of_writes (f : Dev nD → Vec F S1024x512 .f32) (g : Vec F S4096x512 .f32) (k0 k1 k2 k3 : Dev nD)
    (hk : ∀ k : Dev nD, k = k0 ∨ k = k1 ∨ k = k2 ∨ k = k3) (o0 o1 o2 o3 : Fin 2 → ℕ)
    (h0 : o0 = ![1024 * k0.val, 0]) (h1 : o1 = ![1024 * k1.val, 0]) (h2 : o2 = ![1024 * k2.val, 0]) (h3 : o3 = ![1024 * k3.val, 0])
    (i0 i1 i2 i3) :
    ((oM : Memref sig .tc .vmem S4096x512 .f32).access (Rect.unit (s := S4096x512) o3 S1024x512.size i3) : View sig .tc _ _ _).write (Elt F)
      (((oM : Memref sig .tc .vmem S4096x512 .f32).access (Rect.unit (s := S4096x512) o2 S1024x512.size i2) : View sig .tc _ _ _).write (Elt F)
        (((oM : Memref sig .tc .vmem S4096x512 .f32).access (Rect.unit (s := S4096x512) o1 S1024x512.size i1) : View sig .tc _ _ _).write (Elt F)
          (((oM : Memref sig .tc .vmem S4096x512 .f32).access (Rect.unit (s := S4096x512) o0 S1024x512.size i0) : View sig .tc _ _ _).write (Elt F) g (f k0) Finset.univ)
          (f k1) Finset.univ) (f k2) Finset.univ) (f k3) Finset.univ = stack f := by
  funext (y : S4096x512.Idx)
  have key := View.read_writes_apply_of_pieces (View.whole cc0_stg1_0) g (stack f)
    [⟨Rect.unit (s := S4096x512) o3 S1024x512.size i3, f k3⟩, ⟨Rect.unit (s := S4096x512) o2 S1024x512.size i2, f k2⟩,
      ⟨Rect.unit (s := S4096x512) o1 S1024x512.size i1, f k1⟩, ⟨Rect.unit (s := S4096x512) o0 S1024x512.size i0, f k0⟩] ?_ y ?_
  · rw [View.read_whole] at key
    exact key
  · intro p hp x
    simp only [List.mem_cons, List.not_mem_nil, or_false] at hp
    rcases hp with rfl | rfl | rfl | rfl
    · exact (stack_emb f k3 _ h3 i3 x).symm
    · exact (stack_emb f k2 _ h2 i2 x).symm
    · exact (stack_emb f k1 _ h1 i1 x).symm
    · exact (stack_emb f k0 _ h0 i0 x).symm
  · have hy : (y 0).val < 4096 := (y 0).isLt
    have mem : ∀ (k : ℕ) (o : Fin 2 → ℕ) (_ : o = ![1024 * k, 0]) (inb), (y 0).val / 1024 = k →
        y ∈ (Rect.unit (s := S4096x512) o S1024x512.size inb).set := by
      intro k o ho inb hk'
      subst ho
      refine Rect.mem_set_unit.mpr fun a => ?_
      fin_cases a
      · refine ⟨?_, ?_⟩
        · show 1024 * k ≤ (y 0).val; omega
        · show (y 0).val < 1024 * k + 1024; omega
      · exact ⟨Nat.zero_le _, by show (y 1).val < 0 + 512; have : (y 1).val < 512 := (y 1).isLt; omega⟩
    have hq := hk ⟨(y 0).val / 1024, by show _ < 4; omega⟩
    rcases hq with h | h | h | h <;> have hv := congrArg Fin.val h <;> dsimp only at hv
    · exact ⟨_, List.mem_cons_of_mem _ (List.mem_cons_of_mem _ (List.mem_cons_of_mem _ List.mem_cons_self)), mem _ _ h0 i0 hv⟩
    · exact ⟨_, List.mem_cons_of_mem _ (List.mem_cons_of_mem _ List.mem_cons_self), mem _ _ h1 i1 hv⟩
    · exact ⟨_, List.mem_cons_of_mem _ List.mem_cons_self, mem _ _ h2 i2 hv⟩
    · exact ⟨_, List.mem_cons_self, mem _ _ h3 i3 hv⟩

theorem off1_eq (c : Dev nD) : k0_off1 c = ![1024 * c.val, 0] := k0_off1_eq c
theorem off2_eq (c : Dev nD) : k0_off2 c = ![1024 * (lf c).val, 0] := k0_off2_eq c
theorem off3_eq (c : Dev nD) : k0_off3 c 1#32 = ![1024 * (rt c).val, 0] := k0_off3_eq c 0
theorem off4_eq (c : Dev nD) : k0_off3 c 2#32 = ![1024 * (dg c).val, 0] := k0_off3_eq c 1
theorem all_four (c : Dev nD) : ∀ k : Dev nD, k = c ∨ k = lf c ∨ k = rt c ∨ k = dg c := by revert c; decide

end Cert.KernelProof

end
-- ==== Proof.Steps.lean ====
/-
The kernel's steps one at a time, each with what it needs and what it leaves: waits for transfers, transfers to another
device, staged copies.
-/
module

public import proofs.«01_k».proof.Proof.Contents

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 17 → ℕ)

abbrev 𝒱₀ : Variants := Variants.none

/-! ## What every device knows of every cell -/

/-- The invariants of all the cells, that all stand at round 0 or later, and the levels. -/
def recs : sProp 𝕄 :=
  iprop((bigSep Finset.univ fun ck : Dev nD × Fin 17 => iprop(cellInv ER (Rd m) (K ck) (kcell ck) ∗ reached ER (kcell ck) 0)) ∗ levAts L lv)

instance recs_persistent : BI.Persistent (recs (F := F) m K) := by unfold recs; infer_instance

/-- One cell's part of them. -/
theorem recs_at (ck : Dev nD × Fin 17) : recs (F := F) m K ⊢ iprop(cellInv ER (Rd m) (K ck) (kcell ck) ∗ reached ER (kcell ck) 0) := by
  have h : (bigSep Finset.univ fun ck : Dev nD × Fin 17 => iprop(cellInv ER (Rd (F := F) m) (K ck) (kcell ck) ∗ reached ER (kcell ck) 0))
      ⊢ (iprop(cellInv ER (Rd m) (K ck) (kcell ck) ∗ reached ER (kcell ck) 0) : sProp 𝕄) := bigSep_elim (Finset.mem_univ ck)
  unfold recs
  iintro ⟨H, -⟩
  iapply h
  iexact H
theorem inv_of (ck : Dev nD × Fin 17) : recs (F := F) m K ⊢ cellInv ER (Rd m) (K ck) (kcell ck) := by
  iintro H
  ihave H := (recs_at m K ck) $$ H
  icases H with ⟨H, -⟩
  iexact H
theorem reached_of (ck : Dev nD × Fin 17) : recs (F := F) m K ⊢ reached ER (kcell ck) 0 := by
  iintro H
  ihave H := (recs_at m K ck) $$ H
  icases H with ⟨-, H⟩
  iexact H
theorem lev_of : recs (F := F) m K ⊢ levAts L lv := by
  unfold recs
  iintro ⟨-, H⟩
  iexact H

/-- What the device still owes. -/
def ow (c : Dev nD) (n : ℕ) : sProp 𝕄 := iprop(∃ W, owes (c : Thread nD τ) (Od c n) W)

/-- A device's credit for `N` on its cell of the DMA semaphore `s`; its place in that cell; its right to pay there. -/
abbrev crd (c : Dev nD) (s : DmaSem sig) (N : ℕ) : sProp 𝕄 := cred (tallyAt (cell c s) () N)
abbrev pos (c : Dev nD) (s : DmaSem sig) (r : ℕ) : sProp 𝕄 := atPos ER (cell c s) r ∅ 0
abbrev tok (c : Dev nD) (s : DmaSem sig) (r : ℕ) : sProp 𝕄 := dutyTok ER (cell c s) r false

/-- The cell number of a DMA semaphore among a device's cells. -/
theorem csem_dma (j : Fin 17) (s : DmaSem sig) (h : j.val + 1 = s.val) (h0 : j.val ≠ 0) : csem j = .dma s := by
  unfold csem; rw [dif_neg h0]; congr 1; exact Fin.ext h

/-! ## Waits -/

/-- A wait for the one duty of a round: what it brings, the cell one round on. -/
theorem wp_w (c : Dev nD) (j : Fin 17) (s s' : DmaSem sig) (hs : s' = s) (hj : csem j = .dma s) (R n N : ℕ)
    (hd : dutK (kOf (.dma s)) R = {false}) (hN : amtK (kOf (.dma s)) = N) (hl : ∀ i < n, lvK (kOf (.dma s)) < lvK (kOf (tsem i)))
    {sp sp' : Space} {sh sh' : Shape} {e e' : EltTy} {src : Memref sig .tc sp' sh' e'} {dst : Memref sig .tc sp sh e}
    {hsrc : src.view.WordExact} {hdst : dst.view.WordExact} (hc : dst.view.dmaCredit = N)
    {α : Type} {Q : α → sProp 𝕄} {k : PUnit → Prog (TpuEff nD τ sig (Elt F) Λ₀ .tc) α} :
    iprop(recs m K ∗ crd c s N ∗ ow c n ∗ pos c s R)
      ⊢ iprop(((ow c n ∗ pos c s (R + 1) ∗ reached ER (cell c s) (R + 1) ∗ payK m c (kOf (.dma s)) R false)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s' src dst hsrc hdst) k) Q) := by
  subst hs hc
  have hk : kcell (c, j) = cell c s' := by unfold kcell; rw [hj]
  iintro ⟨#Hr, Hc, Ho, Hp⟩ Hk
  unfold ow
  icases Ho with ⟨%W, Ho⟩
  ihave #HI := (inv_of m K (c, j)) $$ Hr
  rw [hk]
  iapply (Rounds.wp_wait_rest_token 𝒱₀ ER (Rd m) (c : Thread nD τ) none (κ := K (c, j))
      (wpE_waitDma2_eq 𝒱₀ (c : Thread nD τ) none Set.univ) (Set.mem_univ _) () (O := Od c n) (W := W) (R := R) (m := 0) (T := ∅)
      (by rw [Nat.zero_add, expect_one m (cell c s') R hd, hN])) $$ [Hc Ho Hp]
  · isplitr; · iexact HI
    isplitl [Hc]; · iexact Hc
    isplitl [Ho]; · iexact Ho
    isplitr
    · iapply (mayWait_of c (.dma s') n hl)
      iapply (lev_of m K); iexact Hr
    iexact Hp
  iintro ⟨Ho, Hp, #Hre, Hpay⟩
  ihave Hpay := (Entails.of_eq (rest_one m (cell c s') R hd)) $$ Hpay
  iapply Hk
  isplitl [Ho]; · iexists _; iexact Ho
  isplitl [Hp]; · iexact Hp
  isplitr; · iexact Hre
  iexact Hpay

/-- The last wait on a cell: what it brings, and the counter at zero. -/
theorem wp_wl (c : Dev nD) (j : Fin 17) (s s' : DmaSem sig) (hs : s' = s) (hj : csem j = .dma s) (R n N : ℕ)
    (hd : dutK (kOf (.dma s)) R = {false}) (hR : ∀ r, R + 1 ≤ r → dutK (kOf (.dma s)) r = ∅)
    (hN : amtK (kOf (.dma s)) = N) (hl : ∀ i < n, lvK (kOf (.dma s)) < lvK (kOf (tsem i)))
    {sp sp' : Space} {sh sh' : Shape} {e e' : EltTy} {src : Memref sig .tc sp' sh' e'} {dst : Memref sig .tc sp sh e}
    {hsrc : src.view.WordExact} {hdst : dst.view.WordExact} (hc : dst.view.dmaCredit = N)
    {α : Type} {Q : α → sProp 𝕄} {k : PUnit → Prog (TpuEff nD τ sig (Elt F) Λ₀ .tc) α} :
    iprop(recs m K ∗ crd c s N ∗ ow c n ∗ pos c s R)
      ⊢ iprop(((ow c n ∗ semVal (cell c s) 0 ∗ payK m c (kOf (.dma s)) R false)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 s' src dst hsrc hdst) k) Q) := by
  have hk : kcell (c, j) = cell c s := by unfold kcell; rw [hj]
  iintro ⟨#Hr, Hc, Ho, Hp⟩ Hk
  iapply (wp_w m K c j s s' hs hj R n N hd hN hl (hsrc := hsrc) (hdst := hdst) hc) $$ [Hc Ho Hp]
  · isplitr; · iexact Hr
    isplitl [Hc]; · iexact Hc
    isplitl [Ho] <;> iassumption
  iintro ⟨Ho, Hp, -, Hpay⟩
  ihave #HI := (inv_of m K (c, j)) $$ Hr
  rw [hk]
  imod (Rounds.cell_close ER (Rd m) (g := cell c s) (Set.mem_univ (K (c, j))) (fun h => h) (R := R + 1) hR) $$ [Hp] with Hz
  · isplitr; · iexact HI
    iexact Hp
  iapply Hk
  isplitl [Ho]; · iexact Ho
  isplitl [Hz] <;> iassumption

/-! ## Transfers -/

/-- A transfer to another device pays the `n`-th debt; the source comes back through the sender's own cell. `G` goes to
    the receiver with what is sent. -/
theorem wp_tx (c n' c' : Dev nD) (hn : n' = c') (j₁ j₂ : Fin 17) (s₁ s₁' s₂ s₂' : DmaSem sig) (hs₁ : s₁' = s₁) (hs₂ : s₂' = s₂)
    (hj₁ : csem j₁ = .dma s₁) (hj₂ : csem j₂ = .dma s₂) (n N : ℕ)
    (hd₁ : dutK (kOf (.dma s₁)) 0 = {false}) (hd₂ : dutK (kOf (.dma s₂)) 0 = {false})
    (hN₁ : amtK (kOf (.dma s₁)) = N) (hN₂ : amtK (kOf (.dma s₂)) = N) (hT : tgt c n = cell c' s₂) (hA : tam n = N)
    {sp sp' : Space} {sh : Shape} {e : EltTy} {src : Memref sig .tc sp sh e}
    {dst : Memref sig (Dev.tc n' : Thread nD τ).2.kind sp' sh e} {hsc : dst.view.ref.isScScratch = false}
    {hsrc : src.view.WordExact} {hdst : dst.view.WordExact}
    {hsem : DmaTarget.Typed sp (.dma s₂') (.remote (Dev.tc n' : Thread nD τ) dst (.dma s₁') hsc)} (hc : dst.view.amount (.dma s₂) = N)
    (q : PosShare TreeShare) (fs : Buf (Elt F) (src.view.loc (c : Thread nD τ))) (fd : Buf (Elt F) (dst.view.loc (Dev.tc c' : Thread nD τ)))
    (G : sProp 𝕄)
    (hp₁ : (src.view.loc (c : Thread nD τ) ↦[src.view.set]{q} fs) ⊢ payK m c (kOf (.dma s₁)) 0 false)
    (hp₂ : iprop((dst.view.loc (Dev.tc c' : Thread nD τ) ↦[dst.view.set]{fullShare} (dst.view.write (Elt F) fd (src.view.read (Elt F) fs) Finset.univ)) ∗ G)
      ⊢ payK m c' (kOf (.dma s₂)) 0 false)
    {α : Type} {Q : α → sProp 𝕄} {k : PUnit → Prog (TpuEff nD τ sig (Elt F) Λ₀ .tc) α} :
    iprop(recs m K ∗ (src.view.loc (c : Thread nD τ) ↦[src.view.set]{q} fs)
        ∗ ((dst.view.loc (Dev.tc c' : Thread nD τ) ↦[dst.view.set]{fullShare} fd) ∗ G) ∗ ow c (n + 1) ∗ tok c s₁ 0 ∗ tok c' s₂ 0)
      ⊢ iprop(((crd c s₁ N ∗ ow c n) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n' : Thread nD τ) dst (.dma s₁') hsc) (.dma s₂') hsrc hdst hsem) k) Q) := by
  subst hn hs₁ hs₂
  have hk₁ : kcell (c, j₁) = cell c s₁' := by unfold kcell; rw [hj₁]
  have hk₂ : kcell (n', j₂) = cell n' s₂' := by unfold kcell; rw [hj₂]
  iintro ⟨#Hr, Hs, Hd, Ho, Ht₁, Ht₂⟩ Hk
  unfold ow
  icases Ho with ⟨%W, Ho⟩
  ihave #HI₁ := (inv_of m K (c, j₁)) $$ Hr
  ihave #HI₂ := (inv_of m K (n', j₂)) $$ Hr
  ihave #HR₁ := (reached_of m K (c, j₁)) $$ Hr
  ihave #HR₂ := (reached_of m K (n', j₂)) $$ Hr
  rw [hk₁, hk₂]
  iapply (Rounds.wp_send_pointsTo_with 𝒱₀ ER (Rd m) (c : Thread nD τ) none (κ₁ := K (c, j₁)) (κ₂ := K (n', j₂))
    (r₁ := 0) (r₂ := 0) (d₁ := false) (d₂ := false) (fd := fd) (F := G) (q := q) (fs := fs) (hsem := hsem)
    (show false ∈ dutK (kOf (.dma s₁')) 0 by rw [hd₁]; exact Finset.mem_singleton_self _)
    (show false ∈ dutK (kOf (.dma s₂')) 0 by rw [hd₂]; exact Finset.mem_singleton_self _)
    () () N hc hN₁ hN₂ (O₀ := Od c (n + 1)) (Od c n) (by rw [Od, hT, hA]) (W := W) hp₁ hp₂) $$ [Hs Hd Ho Ht₁ Ht₂]
  · isplitr; · iexact HI₁
    isplitr; · iexact HI₂
    isplitl [Hs]; · iexact Hs
    isplitl [Hd]; · iexact Hd
    isplitl [Ho]; · iexact Ho
    isplitl [Ht₁]; · iexact Ht₁
    isplitr; · iexact HR₁
    isplitl [Ht₂]; · iexact Ht₂
    iexact HR₂
  iintro ⟨Hc, Ho⟩
  iapply Hk
  isplitl [Hc]; · iexact Hc
  iexists W; iexact Ho

/-! ## Staged copies -/

/-- A chunk of rows copied into a slot of the staging buffer: the flight takes both. -/
theorem wp_stg (c : Dev nD) (j : Fin 17) (s s' : DmaSem sig) (hs : s' = s) (hj : csem j = .dma s) (r : ℕ)
    (hd : dutK (kOf (.dma s)) r = {false}) (hN : amtK (kOf (.dma s)) = NG)
    {src : Memref sig .tc .hbm S256x4096 .f32} {dst : Memref sig .tc .vmem S256x4096 .f32}
    {hsrc : src.view.WordExact} {hdst : dst.view.WordExact}
    {hsem : DmaTarget.Typed (nD := nD) .hbm (.dma s') (.here (p := (c : Thread nD τ).2) dst)} (hc : dst.view.amount (.dma s) = NG)
    (q : PosShare TreeShare) (fs : Buf (Elt F) (src.view.loc (c : Thread nD τ))) (fd : Buf (Elt F) (dst.view.loc (c : Thread nD τ)))
    (hp : payK m c (kOf (.dma s)) r false = stgPay c q dst src fs)
    {α : Type} {Q : α → sProp 𝕄} {k : PUnit → Prog (TpuEff nD τ sig (Elt F) Λ₀ .tc) α} :
    iprop(recs m K ∗ held c src q fs ∗ held c dst fullShare fd ∗ tok c s r ∗ reached ER (cell c s) r)
      ⊢ iprop((crd c s NG -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma s') hsrc hdst hsem) k) Q) := by
  subst hs
  have hk : kcell (c, j) = cell c s' := by unfold kcell; rw [hj]
  iintro ⟨#Hr, Hs, Hd, Ht, #Hre⟩ Hk
  ihave #HI := (inv_of m K (c, j)) $$ Hr
  rw [hk]
  iapply (Rounds.wp_copy_pointsTo 𝒱₀ ER (Rd m) (c : Thread nD τ) none (κ := K (c, j)) (r := r) (d := false) (q := q) (fs := fs) (fd := fd)
    (hsem := hsem) (show false ∈ dutK (kOf (.dma s')) r by rw [hd]; exact Finset.mem_singleton_self _) () NG hc hN
    (by
      show _ ⊢ payK m c (kOf (.dma s')) r false
      rw [hp]; unfold stgPay
      iintro ⟨H1, H2⟩
      isplitl [H1]; · iexists fd; iexact H1
      iexact H2)) $$ [Hs Hd Ht]
  · isplitr; · iexact HI
    isplitl [Hs]; · iexact Hs
    isplitl [Hd]; · iexact Hd
    isplitl [Ht]; · iexact Ht
    iexact Hre
  iexact Hk

/-! ## Sets the loads and stores touch -/

/-- The device's buffer `b`, all of it at the share `q` holding `f`. -/
abbrev buf (c : Dev nD) (b : Ref sig .tc) (q : PosShare TreeShare) (f : Buf (Elt F) ((c : Thread nD τ).loc b)) : sProp 𝕄 :=
  ((c : Thread nD τ).loc b) ↦{q} f

/-- A memref of a whole buffer is all of it. -/
theorem held_whole (c : Dev nD) (b : Ref sig .tc) (q : PosShare TreeShare) (f : Buf (Elt F) ((c : Thread nD τ).loc b)) :
    (held c (Memref.whole b) q f : sProp 𝕄) = buf c b q f := by
  show (_ ↦[(View.whole b).set]{q} f : sProp 𝕄) = _
  rw [View.set_whole]

omit [FloatOps F] in
theorem g_load0 : (gM : Memref sig .tc .vmem S2x256x4096 .f32).view.setOn gR0.toLoadRect.set ⊆ (gS0 : Memref sig .tc .vmem S256x4096 .f32).view.set := by
  rw [gS0_set]
  intro i hi
  obtain ⟨x, hx, rfl⟩ := Finset.mem_map.mp hi
  exact hx
omit [FloatOps F] in
theorem g_load1 : (gM : Memref sig .tc .vmem S2x256x4096 .f32).view.setOn gR1.toLoadRect.set ⊆ (gS1 : Memref sig .tc .vmem S256x4096 .f32).view.set := by
  rw [gS1_set]
  intro i hi
  obtain ⟨x, hx, rfl⟩ := Finset.mem_map.mp hi
  exact hx
omit [FloatOps F] in
theorem s_load0 : (sM : Memref sig .tc .vmem S4x8x128 .f32).view.setOn sR0.toLoadRect.set ⊆ (sS0 : Memref sig .tc .vmem S8x128 .f32).view.set := by
  intro i hi
  obtain ⟨x, hx, rfl⟩ := Finset.mem_map.mp hi
  refine (mem_sS0 _).mpr ?_
  have := (Rect.mem_set_unit.mp hx 0).2
  change (x 0).val < 0 + 1 at this
  show (x 0).val = 0
  omega
omit [FloatOps F] in
theorem s_store0 : ((sM : Memref sig .tc .vmem S4x8x128 .f32).access sR0 : View sig .tc _ _ _).setOn Finset.univ ⊆ (sS0 : Memref sig .tc .vmem S8x128 .f32).view.set := by
  intro i hi
  obtain ⟨x, -, rfl⟩ := Finset.mem_map.mp hi
  refine (mem_sS0 _).mpr ?_
  have h : (x 0).val < 1 := (x 0).isLt
  show 0 + 1 * (x 0).val = 0
  omega

end Cert.KernelProof

end
-- ==== Proof.Body1.lean ====
/-
The kernel's first three parts: the barrier, and its own rows staged and narrowed.
-/
module

public import proofs.«01_k».proof.Proof.Steps

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 17 → ℕ)

/-- The kernel's parts on its buffers and semaphores. -/
abbrev P1 := k0_part1 (F := F) xM (Memref.isWhole_whole _) wM (Memref.isWhole_whole _) oM (Memref.isWhole_whole _) bM (Memref.isWhole_whole _) wbM (Memref.isWhole_whole _) gM (Memref.isWhole_whole _) lM (Memref.isWhole_whole _) rM (Memref.isWhole_whole _) dM (Memref.isWhole_whole _) sM (Memref.isWhole_whole _) cc0_scratch7 cc0_scratch8 cc0_scratch9 cc0_scratch10 cc0_scratch11
abbrev P2 := k0_part2 (F := F) xM (Memref.isWhole_whole _) wM (Memref.isWhole_whole _) oM (Memref.isWhole_whole _) bM (Memref.isWhole_whole _) wbM (Memref.isWhole_whole _) gM (Memref.isWhole_whole _) lM (Memref.isWhole_whole _) rM (Memref.isWhole_whole _) dM (Memref.isWhole_whole _) sM (Memref.isWhole_whole _) cc0_scratch7 cc0_scratch8 cc0_scratch9 cc0_scratch10 cc0_scratch11
abbrev P3 := k0_part3 (F := F) xM (Memref.isWhole_whole _) wM (Memref.isWhole_whole _) oM (Memref.isWhole_whole _) bM (Memref.isWhole_whole _) wbM (Memref.isWhole_whole _) gM (Memref.isWhole_whole _) lM (Memref.isWhole_whole _) rM (Memref.isWhole_whole _) dM (Memref.isWhole_whole _) sM (Memref.isWhole_whole _) cc0_scratch7 cc0_scratch8 cc0_scratch9 cc0_scratch10 cc0_scratch11

/-- The device's own rows but for a chunk. -/
abbrev xrest (c : Dev nD) (q : PosShare TreeShare) (I : Finset (Idx ((c : Thread nD τ).loc main_arg0))) : sProp 𝕄 :=
  ((c : Thread nD τ).loc main_arg0) ↦[Finset.univ \ I]{q} (xAt m c)

/-- The maxima's buffer is its four slots. -/
theorem s_split (c : Dev nD) (f : Buf (Elt F) ((c : Thread nD τ).loc cc0_scratch6)) :
    (buf c cc0_scratch6 fullShare f : sProp 𝕄)
      ⊢ iprop(held c sS0 fullShare f ∗ held c sS1 fullShare f ∗ held c sS2 fullShare f ∗ held c sS3 fullShare f) := by
  iintro H
  ihave H := (pointsTo_split_subset (I := (sS0 : Memref sig .tc .vmem S8x128 .f32).view.set) (Finset.subset_univ _)).1 $$ H
  icases H with ⟨H0, H⟩
  ihave H := (pointsTo_split_subset (I := (sS1 : Memref sig .tc .vmem S8x128 .f32).view.set) (fun i hi => Finset.mem_sdiff.mpr ⟨Finset.mem_univ _, fun h => by
    have := (mem_sS1 i).mp hi; have := (mem_sS0 i).mp h; omega⟩)).1 $$ H
  icases H with ⟨H1, H⟩
  ihave H := (pointsTo_split_subset (I := (sS2 : Memref sig .tc .vmem S8x128 .f32).view.set) (fun i hi => Finset.mem_sdiff.mpr ⟨Finset.mem_sdiff.mpr ⟨Finset.mem_univ _, fun h => by
    have := (mem_sS2 i).mp hi; have := (mem_sS0 i).mp h; omega⟩, fun h => by
    have := (mem_sS2 i).mp hi; have := (mem_sS1 i).mp h; omega⟩)).1 $$ H
  icases H with ⟨H2, H⟩
  ihave H := (pointsTo_split_subset (I := (sS3 : Memref sig .tc .vmem S8x128 .f32).view.set) (fun i hi => Finset.mem_sdiff.mpr ⟨Finset.mem_sdiff.mpr ⟨Finset.mem_sdiff.mpr ⟨Finset.mem_univ _, fun h => by
    have := (mem_sS3 i).mp hi; have := (mem_sS0 i).mp h; omega⟩, fun h => by
    have := (mem_sS3 i).mp hi; have := (mem_sS1 i).mp h; omega⟩, fun h => by
    have := (mem_sS3 i).mp hi; have := (mem_sS2 i).mp h; omega⟩)).1 $$ H
  icases H with ⟨H3, -⟩
  isplitl [H0]; · iexact H0
  isplitl [H1]; · iexact H1
  isplitl [H2]; · iexact H2
  iexact H3

/-- The buffer for the opposite device's rows is its halves. -/
theorem d_split (c : Dev nD) (f : Buf (Elt F) ((c : Thread nD τ).loc cc0_scratch5)) :
    (buf c cc0_scratch5 fullShare f : sProp 𝕄) ⊢ iprop(held c dS0 fullShare f ∗ held c dS1 fullShare f) := by
  iintro H
  ihave H := (Entails.of_eq (show (buf c cc0_scratch5 fullShare f : sProp 𝕄)
    = (((c : Thread nD τ).loc cc0_scratch5) ↦[(dS0 : Memref sig .tc .vmem S512x4096 .bf16).view.set ∪ (dS1 : Memref sig .tc .vmem S512x4096 .bf16).view.set]{fullShare} f) from by rw [d_union])) $$ H
  iapply (pointsTo_union d_disj).1
  iexact H

/-- A signal of the barrier counts one. -/
theorem amount_bar (c : Dev nD) (d : Bool) : (Rd (F := F) m).amount (bar c) 0 d = 1 := rfl

/-- The staging buffer but for its slots: nothing, in fact. -/
abbrev grest (c : Dev nD) (f : Buf (Elt F) ((c : Thread nD τ).loc cc0_scratch2)) : sProp 𝕄 :=
  ((c : Thread nD τ).loc cc0_scratch2) ↦[(Finset.univ \ (gS0 : Memref sig .tc .vmem S256x4096 .f32).view.set) \ (gS1 : Memref sig .tc .vmem S256x4096 .f32).view.set]{fullShare} f

/-- The staging buffer again, whatever its slots hold. -/
theorem g_join (c : Dev nD) (f f0 f1 : Buf (Elt F) ((c : Thread nD τ).loc cc0_scratch2)) :
    iprop(held c gS0 fullShare f0 ∗ held c gS1 fullShare f1 ∗ grest c f) ⊢ (∃ f, buf c cc0_scratch2 fullShare f : sProp 𝕄) := by
  iintro ⟨H0, H1, H2⟩
  ihave H := (pointsTo_join_subset (ℓ := ((c : Thread nD τ).loc cc0_scratch2)) (I := (gS1 : Memref sig .tc .vmem S256x4096 .f32).view.set) (g := f1) (f := f) (q := fullShare) (fun i hi => Finset.mem_sdiff.mpr ⟨Finset.mem_univ _, fun h => Finset.disjoint_left.mp g_disj h hi⟩)) $$ [H1 H2]
  · isplitl [H1]; · iexact H1
    iexact H2
  ihave H := (pointsTo_join_subset (ℓ := ((c : Thread nD τ).loc cc0_scratch2)) (I := (gS0 : Memref sig .tc .vmem S256x4096 .f32).view.set) (g := f0) (q := fullShare) (Finset.subset_univ _)) $$ [H0 H]
  · isplitl [H0]; · iexact H0
    iexact H
  iexists _
  iexact H

/-- The first part: both neighbours told that the device's memory is ready, theirs awaited, two chunks of rows on their way. -/
theorem part1 (c : Dev nD) (fg : Buf (Elt F) ((c : Thread nD τ).loc cc0_scratch2))
    (f3 : Buf (Elt F) ((c : Thread nD τ).loc cc0_scratch3)) (f4 : Buf (Elt F) ((c : Thread nD τ).loc cc0_scratch4))
    (f5 : Buf (Elt F) ((c : Thread nD τ).loc cc0_scratch5)) (f6 : Buf (Elt F) ((c : Thread nD τ).loc cc0_scratch6))
    (Q : (Σ' (d0 : Dev nD) (v2 : BitVec 32) (v5 : BitVec 32) (v7 : BitVec 32), BitVec 32) → sProp 𝕄) :
    iprop(recs m K ∗ ow c 9 ∗ dutyTok ER (bar (lf c)) 0 true ∗ dutyTok ER (bar (rt c)) 0 false ∗ cred (tallyAt (bar c) () 2) ∗ atPos ER (bar c) 0 ∅ 0
        ∗ tok c 2 0 ∗ tok c 3 0 ∗ buf c main_arg0 fullShare (xAt m c) ∗ buf c cc0_scratch2 fullShare fg
        ∗ buf c cc0_scratch3 fullShare f3 ∗ buf c cc0_scratch4 fullShare f4 ∗ buf c cc0_scratch5 fullShare f5 ∗ buf c cc0_scratch6 fullShare f6
        ∗ (∀ v2 v5 v7 v9, (ow c 7 ∗ semVal (bar c) 0 ∗ barPayF c ∗ barPayT c ∗ held c sS0 fullShare f6 ∗ crd c 2 NG ∗ crd c 3 NG
            ∗ xrest m c qL (xS0 : Memref sig .tc .hbm S256x4096 .f32).view.set ∗ xrest m c qR (xS1 : Memref sig .tc .hbm S256x4096 .f32).view.set ∗ grest c fg)
          -∗ Q ⟨c, v2, v5, v7, v9⟩))
      ⊢ wp frame (wpE (defs₀ (F := F)) 𝒱₀ (c : Thread nD τ) none) Set.univ P1 Q := by
  unfold P1
  simp only [k0_part1_eq_skeleton]; unfold k0_part1_skel
  simp only [semSignalWord, semWaitWord, Prog.lift, Prog.bind_op, Prog.bind_ret, Prog.pure_eq_ret, wp_deviceId]
  iintro ⟨#Hr, Ho, HtL, HtR, HcB, HpB, Ht2, Ht3, Hx, Hg, H3, H4, H5, H6, Hk⟩
  ihave H5 := (d_split c f5) $$ H5
  icases H5 with ⟨H50, H51⟩
  ihave H6 := (s_split c f6) $$ H6
  icases H6 with ⟨H60, H61, H62, H63⟩
  ihave H3 := (Entails.of_eq (held_whole c cc0_scratch3 fullShare f3).symm) $$ H3
  ihave H4 := (Entails.of_eq (held_whole c cc0_scratch4 fullShare f4).symm) $$ H4
  simp only [dev1_eq c, dev2_eq c]
  unfold ow
  icases Ho with ⟨%W, Ho⟩
  ihave #HIL := (inv_of m K (lf c, 0)) $$ Hr
  ihave #HIR := (inv_of m K (rt c, 0)) $$ Hr
  ihave #HI := (inv_of m K (c, 0)) $$ Hr
  ihave #HRL := (reached_of m K (lf c, 0)) $$ Hr
  ihave #HRR := (reached_of m K (rt c, 0)) $$ Hr
  -- the left neighbour: its buffer for the rows from here, half of the one for the opposite device's, a slot of maxima
  iapply (Rounds.wp_signal 𝒱₀ ER (Rd m) (c : Thread nD τ) none (dst := (lf c : Thread nD τ)) (κ := K (lf c, 0)) (r := 0)
      (d := true) (Finset.mem_univ _) ((amount_bar m (lf c) true).trans (by decide)) () (O₀ := Od c 9) (Od c 8) rfl) $$ [Ho HtL H3 H50 H61]
  · isplitr; · iexact HIL
    isplitl [Ho]; · iexact Ho
    isplitl [HtL]; · iexact HtL
    isplitl [H3 H50 H61]
    · iapply (show (barPayT (lf c) : sProp 𝕄) ⊢ (Rd m).payload (bar (lf c)) 0 true from Entails.of_eq rfl)
      unfold barPayT heldAny
      rw [rt_lf]
      isplitl [H3]; · iexists f3; iexact H3
      isplitl [H50]; · iexists f5; iexact H50
      iexists f6; iexact H61
    iexact HRL
  iintro Ho
  -- the right neighbour likewise
  iapply (Rounds.wp_signal 𝒱₀ ER (Rd m) (c : Thread nD τ) none (dst := (rt c : Thread nD τ)) (κ := K (rt c, 0)) (r := 0)
      (d := false) (Finset.mem_univ _) ((amount_bar m (rt c) false).trans (by decide)) () (O₀ := Od c 8) (Od c 7) rfl) $$ [Ho HtR H4 H51 H62 H63]
  · isplitr; · iexact HIR
    isplitl [Ho]; · iexact Ho
    isplitl [HtR]; · iexact HtR
    isplitl [H4 H51 H62 H63]
    · iapply (show (barPayF (rt c) : sProp 𝕄) ⊢ (Rd m).payload (bar (rt c)) 0 false from Entails.of_eq rfl)
      unfold barPayF heldAny
      rw [lf_rt]
      isplitl [H4]; · iexists f4; iexact H4
      isplitl [H51]; · iexists f5; iexact H51
      isplitl [H62]; · iexists f6; iexact H62
      iexists f6; iexact H63
    iexact HRR
  iintro Ho
  -- both neighbours' signals
  iapply (Rounds.wp_wait_rest_token 𝒱₀ ER (Rd m) (c : Thread nD τ) none (κ := K (c, 0))
      (wpE_semWait_eq 𝒱₀ (c : Thread nD τ) none Set.univ) (Set.mem_univ _) () (O := Od c 7) (W := W) (R := 0) (m := 0) (T := ∅)
      (by rw [expect_bar]; decide)) $$ [HcB Ho HpB]
  · isplitr; · iexact HI
    isplitl [HcB]; · iexact HcB
    isplitl [Ho]; · iexact Ho
    isplitr
    · iapply (mayWait_of c (.reg barS) 7 (by decide)); iapply (lev_of m K); iexact Hr
    iexact HpB
  iintro ⟨Ho, HpB, -, Hpay⟩
  ihave Hpay := (Entails.of_eq (rest_bar m c)) $$ Hpay
  icases Hpay with ⟨HbF, HbT⟩
  imod (Rounds.cell_close ER (Rd m) (g := bar c) (Set.mem_univ (K (c, 0))) (fun h => h) (R := 0 + 1) (dutK_one 0 (by decide) (by decide))) $$ [HpB] with Hz
  · isplitr; · iexact HI
    iexact HpB
  -- the first two chunks
  ihave Hx := (pointsTo_share (PosShare.mem_left_op_right fullShare)).1 $$ Hx
  icases Hx with ⟨HxL, HxR⟩
  ihave HxL := (pointsTo_split_subset (ℓ := (c : Thread nD τ).loc main_arg0) (f := xAt m c) (I := (xS0 : Memref sig .tc .hbm S256x4096 .f32).view.set) (Finset.subset_univ _)).1 $$ HxL
  icases HxL with ⟨HxL, HxL'⟩
  ihave HxR := (pointsTo_split_subset (ℓ := (c : Thread nD τ).loc main_arg0) (f := xAt m c) (I := (xS1 : Memref sig .tc .hbm S256x4096 .f32).view.set) (Finset.subset_univ _)).1 $$ HxR
  icases HxR with ⟨HxR, HxR'⟩
  ihave Hg := (g_split c fg) $$ Hg
  icases Hg with ⟨Hg0, Hg1, Hgr⟩
  ihave #HR2 := (reached_of m K (c, 1)) $$ Hr
  ihave #HR3 := (reached_of m K (c, 2)) $$ Hr
  iapply (wp_stg m K c 1 2 _ rfl (csem_dma 1 2 rfl (by decide)) 0 rfl rfl (src := xS0) (dst := gS0) rfl qL (xAt m c) fg rfl) $$ [HxL Hg0 Ht2]
  · isplitr; · iexact Hr
    isplitl [HxL]; · iexact HxL
    isplitl [Hg0]; · iexact Hg0
    isplitl [Ht2]; · iexact Ht2
    iexact HR2
  iintro Hc2
  iapply (wp_stg m K c 2 3 _ rfl (csem_dma 2 3 rfl (by decide)) 0 rfl rfl (src := xS1) (dst := gS1) rfl qR (xAt m c) fg rfl) $$ [HxR Hg1 Ht3]
  · isplitr; · iexact Hr
    isplitl [HxR]; · iexact HxR
    isplitl [Hg1]; · iexact Hg1
    isplitl [Ht3]; · iexact Ht3
    iexact HR3
  iintro Hc3
  rw [wp_ret]; imodintro
  iapply Hk $$ %_ %_ %_ %_
  isplitl [Ho]; · iexists _; iexact Ho
  isplitl [Hz]; · iexact Hz
  isplitl [HbF]; · iexact HbF
  isplitl [HbT]; · iexact HbT
  isplitl [H60]; · iexact H60
  isplitl [Hc2]; · iexact Hc2
  isplitl [Hc3]; · iexact Hc3
  isplitl [HxL']; · iexact HxL'
  isplitl [HxR']; · iexact HxR'
  iexact Hgr

/-- The second part: the first chunk narrowed, the third on its way, the second narrowed. -/
theorem part2 (c : Dev nD) (fb : Buf (Elt F) ((c : Thread nD τ).loc cc0_scratch0)) (Q : PUnit → sProp 𝕄) :
    iprop(recs m K ∗ ow c 7 ∗ crd c 2 NG ∗ crd c 3 NG ∗ pos c 2 0 ∗ pos c 3 0 ∗ tok c 2 1
        ∗ xrest m c qL (xS0 : Memref sig .tc .hbm S256x4096 .f32).view.set ∗ xrest m c qR (xS1 : Memref sig .tc .hbm S256x4096 .f32).view.set ∗ buf c cc0_scratch0 fullShare fb
        ∗ ((ow c 7 ∗ crd c 2 NG ∗ pos c 2 1 ∗ pos c 3 1 ∗ reached ER (cell c 3) 1 ∗ xrest m c qL (xS2 : Memref sig .tc .hbm S256x4096 .f32).view.set
            ∗ buf c main_arg0 qR (xAt m c) ∗ (∃ f, held c gS1 fullShare f) ∗ buf c cc0_scratch0 fullShare (xb2 m c fb))
          -∗ Q ⟨⟩))
      ⊢ wp frame (wpE (defs₀ (F := F)) 𝒱₀ (c : Thread nD τ) none) Set.univ P2 Q := by
  unfold P2
  simp only [k0_part2_eq_skeleton]; unfold k0_part2_skel
  simp only [Prog.lift, Prog.bind_op, Prog.bind_ret, Prog.pure_eq_ret]
  iintro ⟨#Hr, Ho, Hc2, Hc3, Hp2, Hp3, Ht2, HxL, HxR, Hb, Hk⟩
  -- the first chunk has come
  iapply (wp_w m K c 1 2 _ rfl (csem_dma 1 2 rfl (by decide)) 0 7 NG rfl rfl (by decide) (dst := gS0) rfl) $$ [Hc2 Ho Hp2]
  · isplitr; · iexact Hr
    isplitl [Hc2]; · iexact Hc2
    isplitl [Ho] <;> iassumption
  iintro ⟨Ho, Hp2, #HR2, Hpay⟩
  ihave Hpay := (Entails.of_eq (show payK m c (kOf (.dma 2)) 0 false = stgPay c qL gS0 xS0 (xAt m c) from rfl)) $$ Hpay
  unfold stgPay
  icases Hpay with ⟨⟨%fd, Hg⟩, Hx⟩
  ihave HxL := (pointsTo_split_subset (ℓ := (c : Thread nD τ).loc main_arg0) (f := xAt m c) (I := (xS0 : Memref sig .tc .hbm S256x4096 .f32).view.set) (Finset.subset_univ _)).2 $$ [Hx HxL]
  · isplitl [Hx] <;> iassumption
  iapply (wp_load 𝒱₀ (c : Thread nD τ) none Set.univ (m := gM) g_load0) $$ Hg; iintro Hg
  rw [pay4_eq]
  iapply (wp_load 𝒱₀ (c : Thread nD τ) none Set.univ (m := bM) (Finset.subset_univ _)) $$ Hb; iintro Hb
  iapply (wp_store 𝒱₀ (c : Thread nD τ) none Set.univ (m := bM) (r := xR0) (Mk := Finset.univ) (Finset.subset_univ _)) $$ Hb; iintro Hb
  -- the third chunk sets out
  ihave HxL := (pointsTo_split_subset (ℓ := (c : Thread nD τ).loc main_arg0) (f := xAt m c) (I := (xS2 : Memref sig .tc .hbm S256x4096 .f32).view.set) (Finset.subset_univ _)).1 $$ HxL
  icases HxL with ⟨HxL, HxL'⟩
  iapply (wp_stg m K c 1 2 _ rfl (csem_dma 1 2 rfl (by decide)) 1 rfl rfl (src := xS2) (dst := gS0) rfl qL (xAt m c) _ rfl) $$ [HxL Hg Ht2]
  · isplitr; · iexact Hr
    isplitl [HxL]; · iexact HxL
    isplitl [Hg]; · iexact Hg
    isplitl [Ht2]; · iexact Ht2
    iexact HR2
  iintro Hc2
  -- the second has come
  iapply (wp_w m K c 2 3 _ rfl (csem_dma 2 3 rfl (by decide)) 0 7 NG rfl rfl (by decide) (dst := gS1) rfl) $$ [Hc3 Ho Hp3]
  · isplitr; · iexact Hr
    isplitl [Hc3]; · iexact Hc3
    isplitl [Ho] <;> iassumption
  iintro ⟨Ho, Hp3, #HR3, Hpay⟩
  ihave Hpay := (Entails.of_eq (show payK m c (kOf (.dma 3)) 0 false = stgPay c qR gS1 xS1 (xAt m c) from rfl)) $$ Hpay
  unfold stgPay
  icases Hpay with ⟨⟨%fd', Hg⟩, Hx⟩
  ihave HxR := (pointsTo_split_subset (ℓ := (c : Thread nD τ).loc main_arg0) (f := xAt m c) (I := (xS1 : Memref sig .tc .hbm S256x4096 .f32).view.set) (Finset.subset_univ _)).2 $$ [Hx HxR]
  · isplitl [Hx] <;> iassumption
  iapply (wp_load 𝒱₀ (c : Thread nD τ) none Set.univ (m := gM) g_load1) $$ Hg; iintro Hg
  rw [pay5_eq]
  iapply (wp_load 𝒱₀ (c : Thread nD τ) none Set.univ (m := bM) (Finset.subset_univ _)) $$ Hb; iintro Hb
  iapply (wp_store 𝒱₀ (c : Thread nD τ) none Set.univ (m := bM) (r := xR1) (Mk := Finset.univ) (Finset.subset_univ _)) $$ Hb; iintro Hb
  rw [wp_ret]; imodintro
  iapply Hk
  isplitl [Ho]; · iexact Ho
  isplitl [Hc2]; · iexact Hc2
  isplitl [Hp2]; · iexact Hp2
  isplitl [Hp3]; · iexact Hp3
  isplitr; · iexact HR3
  isplitl [HxL']; · iexact HxL'
  isplitl [HxR]; · iexact HxR
  isplitl [Hg]; · iexists _; iexact Hg
  iexact Hb

/-- The third part: the fourth chunk on its way, the third narrowed, then the fourth: the whole block in half precision. -/
theorem part3 (c : Dev nD) (fb : Buf (Elt F) ((c : Thread nD τ).loc cc0_scratch0)) (fg : Buf (Elt F) ((c : Thread nD τ).loc cc0_scratch2))
    (Q : PUnit → sProp 𝕄) :
    iprop(recs m K ∗ ow c 7 ∗ crd c 2 NG ∗ pos c 2 1 ∗ pos c 3 1 ∗ reached ER (cell c 3) 1 ∗ tok c 3 1
        ∗ xrest m c qL (xS2 : Memref sig .tc .hbm S256x4096 .f32).view.set ∗ buf c main_arg0 qR (xAt m c) ∗ (∃ f, held c gS1 fullShare f) ∗ grest c fg ∗ buf c cc0_scratch0 fullShare (xb2 m c fb)
        ∗ ((ow c 7 ∗ semVal (cell c 2) 0 ∗ semVal (cell c 3) 0 ∗ buf c main_arg0 fullShare (xAt m c)
            ∗ (∃ f, buf c cc0_scratch2 fullShare f) ∗ buf c cc0_scratch0 fullShare (xbAt m c))
          -∗ Q ⟨⟩))
      ⊢ wp frame (wpE (defs₀ (F := F)) 𝒱₀ (c : Thread nD τ) none) Set.univ P3 Q := by
  unfold P3
  simp only [k0_part3_eq_skeleton]; unfold k0_part3_skel
  simp only [Prog.lift, Prog.bind_op, Prog.bind_ret, Prog.pure_eq_ret]
  iintro ⟨#Hr, Ho, Hc2, Hp2, Hp3, #HR3, Ht3, HxL, HxR, ⟨%fg1, Hg1⟩, Hgr, Hb, Hk⟩
  -- the fourth chunk sets out
  ihave HxR := (pointsTo_split_subset (ℓ := (c : Thread nD τ).loc main_arg0) (f := xAt m c) (I := (xS3 : Memref sig .tc .hbm S256x4096 .f32).view.set) (Finset.subset_univ _)).1 $$ HxR
  icases HxR with ⟨HxR, HxR'⟩
  iapply (wp_stg m K c 2 3 _ rfl (csem_dma 2 3 rfl (by decide)) 1 rfl rfl (src := xS3) (dst := gS1) rfl qR (xAt m c) _ rfl) $$ [HxR Hg1 Ht3]
  · isplitr; · iexact Hr
    isplitl [HxR]; · iexact HxR
    isplitl [Hg1]; · iexact Hg1
    isplitl [Ht3]; · iexact Ht3
    iexact HR3
  iintro Hc3
  -- the third has come
  iapply (wp_wl m K c 1 2 _ rfl (csem_dma 1 2 rfl (by decide)) 1 7 NG rfl (dutK_two 3) rfl (by decide) (dst := gS0) rfl) $$ [Hc2 Ho Hp2]
  · isplitr; · iexact Hr
    isplitl [Hc2]; · iexact Hc2
    isplitl [Ho] <;> iassumption
  iintro ⟨Ho, Hz2, Hpay⟩
  ihave Hpay := (Entails.of_eq (show payK m c (kOf (.dma 2)) 1 false = stgPay c qL gS0 xS2 (xAt m c) from rfl)) $$ Hpay
  unfold stgPay
  icases Hpay with ⟨⟨%fd, Hg0⟩, Hx⟩
  ihave HxL := (pointsTo_split_subset (ℓ := (c : Thread nD τ).loc main_arg0) (f := xAt m c) (I := (xS2 : Memref sig .tc .hbm S256x4096 .f32).view.set) (Finset.subset_univ _)).2 $$ [Hx HxL]
  · isplitl [Hx] <;> iassumption
  iapply (wp_load 𝒱₀ (c : Thread nD τ) none Set.univ (m := gM) g_load0) $$ Hg0; iintro Hg0
  rw [pay6_eq]
  iapply (wp_load 𝒱₀ (c : Thread nD τ) none Set.univ (m := bM) (Finset.subset_univ _)) $$ Hb; iintro Hb
  iapply (wp_store 𝒱₀ (c : Thread nD τ) none Set.univ (m := bM) (r := xR2) (Mk := Finset.univ) (Finset.subset_univ _)) $$ Hb; iintro Hb
  -- the fourth has come
  iapply (wp_wl m K c 2 3 _ rfl (csem_dma 2 3 rfl (by decide)) 1 7 NG rfl (dutK_two 4) rfl (by decide) (dst := gS1) rfl) $$ [Hc3 Ho Hp3]
  · isplitr; · iexact Hr
    isplitl [Hc3]; · iexact Hc3
    isplitl [Ho] <;> iassumption
  iintro ⟨Ho, Hz3, Hpay⟩
  ihave Hpay := (Entails.of_eq (show payK m c (kOf (.dma 3)) 1 false = stgPay c qR gS1 xS3 (xAt m c) from rfl)) $$ Hpay
  unfold stgPay
  icases Hpay with ⟨⟨%fd', Hg1⟩, Hx⟩
  ihave HxR := (pointsTo_split_subset (ℓ := (c : Thread nD τ).loc main_arg0) (f := xAt m c) (I := (xS3 : Memref sig .tc .hbm S256x4096 .f32).view.set) (Finset.subset_univ _)).2 $$ [Hx HxR']
  · isplitl [Hx] <;> iassumption
  iapply (wp_load 𝒱₀ (c : Thread nD τ) none Set.univ (m := gM) g_load1) $$ Hg1; iintro Hg1
  rw [pay7_eq]
  iapply (wp_load 𝒱₀ (c : Thread nD τ) none Set.univ (m := bM) (Finset.subset_univ _)) $$ Hb; iintro Hb
  iapply (wp_store 𝒱₀ (c : Thread nD τ) none Set.univ (m := bM) (r := xR3) (Mk := Finset.univ) (Finset.subset_univ _)) $$ Hb; iintro Hb
  ihave Hb := (Entails.of_eq (show (buf c cc0_scratch0 fullShare (xb4 m c fb) : sProp 𝕄) = buf c cc0_scratch0 fullShare (xbAt m c) from by rw [xb4_eq])) $$ Hb
  rw [wp_ret]; imodintro
  iapply Hk
  isplitl [Ho]; · iexact Ho
  isplitl [Hz2]; · iexact Hz2
  isplitl [Hz3]; · iexact Hz3
  isplitl [HxL HxR]
  · iapply (pointsTo_share (PosShare.mem_left_op_right fullShare)).2
    isplitl [HxL] <;> iassumption
  isplitl [Hg0 Hg1 Hgr]
  · iapply (g_join c fg _ _)
    isplitl [Hg0]; · iexact Hg0
    isplitl [Hg1] <;> iassumption
  iexact Hb

end Cert.KernelProof

end
-- ==== Proof.Body2.lean ====
/-
The kernel's next four parts: the rows sent round the ring, the products of the columns with each block of rows, and the
largest magnitude among them.
-/
module

public import proofs.«01_k».proof.Proof.Body1

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 17 → ℕ)

/-- The kernel's parts on its buffers and semaphores. -/
abbrev P4 := k0_part4 (F := F) xM (Memref.isWhole_whole _) wM (Memref.isWhole_whole _) oM (Memref.isWhole_whole _) bM (Memref.isWhole_whole _) wbM (Memref.isWhole_whole _) gM (Memref.isWhole_whole _) lM (Memref.isWhole_whole _) rM (Memref.isWhole_whole _) dM (Memref.isWhole_whole _) sM (Memref.isWhole_whole _) cc0_scratch7 cc0_scratch8 cc0_scratch9 cc0_scratch10 cc0_scratch11
abbrev P5 := k0_part5 (F := F) xM (Memref.isWhole_whole _) wM (Memref.isWhole_whole _) oM (Memref.isWhole_whole _) bM (Memref.isWhole_whole _) wbM (Memref.isWhole_whole _) gM (Memref.isWhole_whole _) lM (Memref.isWhole_whole _) rM (Memref.isWhole_whole _) dM (Memref.isWhole_whole _) sM (Memref.isWhole_whole _) cc0_scratch7 cc0_scratch8 cc0_scratch9 cc0_scratch10 cc0_scratch11
abbrev P6 := k0_part6 (F := F) xM (Memref.isWhole_whole _) wM (Memref.isWhole_whole _) oM (Memref.isWhole_whole _) bM (Memref.isWhole_whole _) wbM (Memref.isWhole_whole _) gM (Memref.isWhole_whole _) lM (Memref.isWhole_whole _) rM (Memref.isWhole_whole _) dM (Memref.isWhole_whole _) sM (Memref.isWhole_whole _) cc0_scratch7 cc0_scratch8 cc0_scratch9 cc0_scratch10 cc0_scratch11
abbrev P7 := k0_part7 (F := F) xM (Memref.isWhole_whole _) wM (Memref.isWhole_whole _) oM (Memref.isWhole_whole _) bM (Memref.isWhole_whole _) wbM (Memref.isWhole_whole _) gM (Memref.isWhole_whole _) lM (Memref.isWhole_whole _) rM (Memref.isWhole_whole _) dM (Memref.isWhole_whole _) sM (Memref.isWhole_whole _) cc0_scratch7 cc0_scratch8 cc0_scratch9 cc0_scratch10 cc0_scratch11

/-! ## What is sent, as received -/

/-- The rows sent to the right neighbour, with the slot of maxima it will write. -/
theorem pay_r0 (c : Dev nD) (fd : Vec F S1024x4096 .bf16) :
    iprop(((lM : Memref sig .tc .vmem S1024x4096 .bf16).view.loc (Dev.tc (rt c) : Thread nD τ) ↦[(lM : Memref sig .tc .vmem S1024x4096 .bf16).view.set]{fullShare}
        ((lM : Memref sig .tc .vmem S1024x4096 .bf16).view.write (Elt F) fd ((bM : Memref sig .tc .vmem S1024x4096 .bf16).view.read (Elt F) (xbAt m c)) Finset.univ))
      ∗ heldAny (lf c) sS3) ⊢ payK m (rt c) (kOf (.dma 8)) 0 false := by
  rw [sent_l]
  show _ ⊢ (iprop(held (rt c) lM fullShare (xbAt m (lf (rt c))) ∗ heldAny (dg (rt c)) sS3) : sProp 𝕄)
  rw [lf_rt, dg_rt]
/-- The rows sent to the left neighbour. -/
theorem pay_r1 (c : Dev nD) (fd : Vec F S1024x4096 .bf16) :
    iprop(((rM : Memref sig .tc .vmem S1024x4096 .bf16).view.loc (Dev.tc (lf c) : Thread nD τ) ↦[(rM : Memref sig .tc .vmem S1024x4096 .bf16).view.set]{fullShare}
        ((rM : Memref sig .tc .vmem S1024x4096 .bf16).view.write (Elt F) fd ((bM : Memref sig .tc .vmem S1024x4096 .bf16).view.read (Elt F) (xbAt m c)) Finset.univ))
      ∗ emp) ⊢ payK m (lf c) (kOf (.dma 9)) 0 false := by
  rw [sent_r]
  show _ ⊢ (held (lf c) rM fullShare (xbAt m (rt (lf c))) : sProp 𝕄)
  rw [rt_lf]
  iintro ⟨H, -⟩; iexact H
/-- The upper half of the left neighbour's rows, sent on to the right. -/
theorem pay_r2 (c : Dev nD) (fd : Vec F S1024x4096 .bf16) :
    iprop(((dS0 : Memref sig .tc .vmem S512x4096 .bf16).view.loc (Dev.tc (rt c) : Thread nD τ) ↦[(dS0 : Memref sig .tc .vmem S512x4096 .bf16).view.set]{fullShare}
        ((dS0 : Memref sig .tc .vmem S512x4096 .bf16).view.write (Elt F) fd ((lS0 : Memref sig .tc .vmem S512x4096 .bf16).view.read (Elt F) (xbAt m (lf c))) Finset.univ))
      ∗ emp) ⊢ payK m (rt c) (kOf (.dma 10)) 0 false := by
  rw [pointsTo_congr (sent_d0 fd (xbAt m (lf c)))]
  show _ ⊢ (held (rt c) dS0 fullShare (xbAt m (dg (rt c))) : sProp 𝕄)
  rw [dg_rt]
  iintro ⟨H, -⟩; iexact H
/-- The lower half of the right neighbour's rows, sent on to the left. -/
theorem pay_r3 (c : Dev nD) (fd : Vec F S1024x4096 .bf16) :
    iprop(((dS1 : Memref sig .tc .vmem S512x4096 .bf16).view.loc (Dev.tc (lf c) : Thread nD τ) ↦[(dS1 : Memref sig .tc .vmem S512x4096 .bf16).view.set]{fullShare}
        ((dS1 : Memref sig .tc .vmem S512x4096 .bf16).view.write (Elt F) fd ((rS1 : Memref sig .tc .vmem S512x4096 .bf16).view.read (Elt F) (xbAt m (rt c))) Finset.univ))
      ∗ emp) ⊢ payK m (lf c) (kOf (.dma 11)) 0 false := by
  rw [pointsTo_congr (sent_d1 fd (xbAt m (rt c)))]
  show _ ⊢ (held (lf c) dS1 fullShare (xbAt m (dg (lf c))) : sProp 𝕄)
  rw [dg_lf]
  iintro ⟨H, -⟩; iexact H

/-! ## The result as it fills -/

/-- A chunk of 1024 rows of the result at `off`. -/
abbrev oR (off : Fin 2 → ℕ) (inb : ∀ a, off a + S1024x512.size a ≤ S4096x512.size a) : Rect S4096x512 := Rect.unit (s := S4096x512) off S1024x512.size inb
/-- The result with one chunk set. -/
abbrev put (off : Fin 2 → ℕ) (inb : ∀ a, off a + S1024x512.size a ≤ S4096x512.size a) (f : Vec F S4096x512 .f32) (w : Vec F S1024x512 .f32) : Vec F S4096x512 .f32 :=
  ((oM : Memref sig .tc .vmem S4096x512 .f32).access (oR off inb) : View sig .tc _ _ _).write (Elt F) f w Finset.univ
/-- The products of the device's columns with its own rows, with the left neighbour's, the right one's, the opposite device's. -/
abbrev o1 (c : Dev nD) (f : Vec F S4096x512 .f32) := put (k0_off1 c) (k0_off1_inb c) f (yAt m c c)
abbrev o2 (c : Dev nD) (f : Vec F S4096x512 .f32) := put (k0_off2 c) (k0_off2_inb c) (o1 m c f) (yAt m c (lf c))
abbrev o3 (c : Dev nD) (f : Vec F S4096x512 .f32) := put (k0_off3 c 1#32) (k0_off3_inb c 0) (o2 m c f) (yAt m c (rt c))
abbrev o4 (c : Dev nD) (f : Vec F S4096x512 .f32) := put (k0_off3 c 2#32) (k0_off3_inb c 1) (o3 m c f) (yAt m c (dg c))
/-- All four of them. -/
theorem o4_eq (c : Dev nD) (f : Vec F S4096x512 .f32) : o4 m c f = stack (yAt m c) :=
  stack_of_writes (yAt m c) f c (lf c) (rt c) (dg c) (all_four c) _ _ _ _ (off1_eq c) (off2_eq c) (off3_eq c) (off4_eq c) _ _ _ _

omit [FloatOps F] in
theorem hz : (![0, 0] : Fin 2 → Nat) = fun _ => 0 := funext fun a => by fin_cases a <;> rfl
omit [FloatOps F] in
theorem read_w (f : Vec F S4096x512 .f32) : (wM : Memref sig .tc .vmem S4096x512 .f32).view.readAt (Elt F) (Rect.unit (s := S4096x512) ![0, 0] S4096x512.size inb_S4096x512_S4096x512_0_0).toLoadRect f = f :=
  Memref.readAt_unit_zero (Elt F) cc0_stg0_0 hz _ f
omit [FloatOps F] in
theorem read_wb (f : Vec F S4096x512 .bf16) : (wbM : Memref sig .tc .vmem S4096x512 .bf16).view.readAt (Elt F) (Rect.unit (s := S4096x512) ![0, 0] S4096x512.size inb_S4096x512_S4096x512_0_0).toLoadRect f = f :=
  Memref.readAt_unit_zero (Elt F) cc0_scratch1 hz _ f
omit [FloatOps F] in
theorem write_wb (f w : Vec F S4096x512 .bf16) : ((wbM : Memref sig .tc .vmem S4096x512 .bf16).access (Rect.unit (s := S4096x512) ![0, 0] S4096x512.size inb_S4096x512_S4096x512_0_0) : View sig .tc _ _ _).write (Elt F) f w Finset.univ = w :=
  Memref.write_access_unit_zero_univ (Elt F) cc0_scratch1 hz _ f w
omit [FloatOps F] in
theorem read_b (f : Vec F S1024x4096 .bf16) : (bM : Memref sig .tc .vmem S1024x4096 .bf16).view.readAt (Elt F) (Rect.unit (s := S1024x4096) ![0, 0] S1024x4096.size inb_S1024x4096_S1024x4096_0_0).toLoadRect f = f :=
  Memref.readAt_unit_zero (Elt F) cc0_scratch0 hz _ f
omit [FloatOps F] in
theorem read_l (f : Vec F S1024x4096 .bf16) : (lM : Memref sig .tc .vmem S1024x4096 .bf16).view.readAt (Elt F) (Rect.unit (s := S1024x4096) ![0, 0] S1024x4096.size inb_S1024x4096_S1024x4096_0_0).toLoadRect f = f :=
  Memref.readAt_unit_zero (Elt F) cc0_scratch3 hz _ f
omit [FloatOps F] in
theorem read_r (f : Vec F S1024x4096 .bf16) : (rM : Memref sig .tc .vmem S1024x4096 .bf16).view.readAt (Elt F) (Rect.unit (s := S1024x4096) ![0, 0] S1024x4096.size inb_S1024x4096_S1024x4096_0_0).toLoadRect f = f :=
  Memref.readAt_unit_zero (Elt F) cc0_scratch4 hz _ f
omit [FloatOps F] in
theorem read_d (f : Vec F S1024x4096 .bf16) : (dM : Memref sig .tc .vmem S1024x4096 .bf16).view.readAt (Elt F) (Rect.unit (s := S1024x4096) ![0, 0] S1024x4096.size inb_S1024x4096_S1024x4096_0_0).toLoadRect f = f :=
  Memref.readAt_unit_zero (Elt F) cc0_scratch5 hz _ f

/-- What is left of a neighbour's rows while a half is sent on. -/
abbrev lrest (c : Dev nD) : sProp 𝕄 :=
  ((c : Thread nD τ).loc cc0_scratch3) ↦[Finset.univ \ (lS0 : Memref sig .tc .vmem S512x4096 .bf16).view.set]{qL} (xbAt m (lf c))
abbrev rrest (c : Dev nD) : sProp 𝕄 :=
  ((c : Thread nD τ).loc cc0_scratch4) ↦[Finset.univ \ (rS1 : Memref sig .tc .vmem S512x4096 .bf16).view.set]{qL} (xbAt m (rt c))

/-- The fourth part: the device's own rows sent both ways; the columns narrowed; the product with its own rows and its
    largest magnitude. -/
theorem part4 (c : Dev nD) (fw : Buf (Elt F) ((c : Thread nD τ).loc cc0_scratch1)) (fo : Buf (Elt F) ((c : Thread nD τ).loc cc0_stg1_0)) (v2 v5 v7 : BitVec 32) (Q : F .f32 → sProp 𝕄) :
    iprop(recs m K ∗ ow c 7
        ∗ tok c 4 0 ∗ tok c 5 0 ∗ tok (rt c) 8 0 ∗ tok (lf c) 9 0
        ∗ heldAny (rt c) lM ∗ heldAny (lf c) sS3 ∗ heldAny (lf c) rM
        ∗ buf c cc0_scratch0 fullShare (xbAt m c) ∗ buf c cc0_stg0_0 fullShare (wstg m c) ∗ buf c cc0_scratch1 fullShare fw ∗ buf c cc0_stg1_0 fullShare fo
        ∗ ((ow c 5 ∗ crd c 4 NB ∗ crd c 5 NB
            ∗ buf c cc0_scratch0 qC (xbAt m c) ∗ buf c cc0_stg0_0 fullShare (wstg m c) ∗ buf c cc0_scratch1 fullShare (wbAt m c) ∗ buf c cc0_stg1_0 fullShare (o1 m c fo))
          -∗ Q (k0_pay10 (yAt m c c))))
      ⊢ wp frame (wpE (defs₀ (F := F)) 𝒱₀ (c : Thread nD τ) none) Set.univ (P4 c v2 v5 v7) Q := by
  unfold P4
  simp only [k0_part4_eq_skeleton]; unfold k0_part4_skel
  simp only [Prog.lift, Prog.bind_op, Prog.bind_ret, Prog.pure_eq_ret]
  iintro ⟨#Hr, Ho, Ht4, Ht5, Ht8, Ht9, Hl, Hs3, Hrr, Hb, Hw, Hwb, Hout, Hk⟩
  unfold heldAny
  icases Hl with ⟨%fl, Hl⟩
  icases Hrr with ⟨%fr, Hrr⟩
  ihave Hb := (pointsTo_share (PosShare.mem_left_op_right fullShare)).1 $$ Hb
  icases Hb with ⟨HbA, Hb⟩
  ihave Hb := (pointsTo_share (PosShare.mem_left_op_right fullShare.right)).1 $$ Hb
  icases Hb with ⟨HbB, HbC⟩
  ihave HbA := (Entails.of_eq (held_whole c cc0_scratch0 qA (xbAt m c)).symm) $$ HbA
  ihave HbB := (Entails.of_eq (held_whole c cc0_scratch0 qB (xbAt m c)).symm) $$ HbB
  -- its own rows to the right
  iapply (wp_tx m K c _ (rt c) (dev3_eq c) 3 7 4 _ 8 _ rfl rfl (csem_dma 3 4 rfl (by decide)) (csem_dma 7 8 rfl (by decide)) 6 NB
      rfl rfl rfl rfl rfl rfl (src := bM) (dst := lM) rfl qA (xbAt m c) fl (heldAny (lf c) sS3) (Entails.of_eq rfl) (pay_r0 m c fl)) $$ [HbA Hl Hs3 Ho Ht4 Ht8]
  · isplitr; · iexact Hr
    isplitl [HbA]; · iexact HbA
    isplitl [Hl Hs3]
    · isplitl [Hl]; · iexact Hl
      unfold heldAny; iexact Hs3
    isplitl [Ho]; · iexact Ho
    isplitl [Ht4] <;> iassumption
  iintro ⟨Hc4, Ho⟩
  -- and to the left
  iapply (wp_tx m K c _ (lf c) (dev4_eq c) 4 8 5 _ 9 _ rfl rfl (csem_dma 4 5 rfl (by decide)) (csem_dma 8 9 rfl (by decide)) 5 NB
      rfl rfl rfl rfl rfl rfl (src := bM) (dst := rM) rfl qB (xbAt m c) fr iprop(emp) (Entails.of_eq rfl) (pay_r1 m c fr)) $$ [HbB Hrr Ho Ht5 Ht9]
  · isplitr; · iexact Hr
    isplitl [HbB]; · iexact HbB
    isplitl [Hrr]
    · isplitl [Hrr]; · iexact Hrr
      iempintro
    isplitl [Ho]; · iexact Ho
    isplitl [Ht5] <;> iassumption
  iintro ⟨Hc5, Ho⟩
  -- the columns narrowed
  iapply (wp_load 𝒱₀ (c : Thread nD τ) none Set.univ (m := wM) (Finset.subset_univ _)) $$ Hw; iintro Hw
  rw [read_w]
  iapply (wp_load 𝒱₀ (c : Thread nD τ) none Set.univ (m := wbM) (Finset.subset_univ _)) $$ Hwb; iintro Hwb
  iapply (wp_store 𝒱₀ (c : Thread nD τ) none Set.univ (m := wbM) (r := (Rect.unit (s := S4096x512) ![0, 0] S4096x512.size inb_S4096x512_S4096x512_0_0)) (Mk := Finset.univ) (Finset.subset_univ _)) $$ Hwb; iintro Hwb
  rw [write_wb]
  -- the product with its own rows
  iapply (wp_load 𝒱₀ (c : Thread nD τ) none Set.univ (m := bM) (Finset.subset_univ _)) $$ HbC; iintro HbC
  rw [read_b]
  iapply (wp_load 𝒱₀ (c : Thread nD τ) none Set.univ (m := wbM) (Finset.subset_univ _)) $$ Hwb; iintro Hwb
  rw [read_wb]
  iapply (wp_load 𝒱₀ (c : Thread nD τ) none Set.univ (m := oM) (Finset.subset_univ _)) $$ Hout; iintro Hout
  iapply (wp_store 𝒱₀ (c : Thread nD τ) none Set.univ (m := oM) (r := (oR (k0_off1 c) (k0_off1_inb c))) (Mk := Finset.univ) (Finset.subset_univ _)) $$ Hout; iintro Hout
  iapply (wp_load 𝒱₀ (c : Thread nD τ) none Set.univ (m := oM) (Finset.subset_univ _)) $$ Hout; iintro Hout
  rw [chunk_hit, show k0_pay9 (xbAt m c) (k0_pay8 (wstg m c)) = yAt m c c from rfl]
  rw [wp_ret]; imodintro
  iapply Hk
  isplitl [Ho]; · iexact Ho
  isplitl [Hc4]; · iexact Hc4
  isplitl [Hc5]; · iexact Hc5
  isplitl [HbC]; · iexact HbC
  isplitl [Hw]; · iexact Hw
  isplitl [Hwb]; · iexact Hwb
  iexact Hout

/-- The fifth part: the left neighbour's rows come, their upper half goes on to the right, the product with them. -/
theorem part5 (c : Dev nD) (fo : Buf (Elt F) ((c : Thread nD τ).loc cc0_stg1_0)) (v5 v7 : BitVec 32) (v : F .f32) (Q : F .f32 → sProp 𝕄) :
    iprop(recs m K ∗ ow c 5
        ∗ crd c 8 NB ∗ pos c 8 0
        ∗ tok c 6 0 ∗ tok (rt c) 10 0 ∗ heldAny (rt c) dS0
        ∗ buf c cc0_scratch1 fullShare (wbAt m c) ∗ buf c cc0_stg1_0 fullShare fo
        ∗ ((ow c 4 ∗ semVal (cell c 8) 0 ∗ heldAny (dg c) sS3 ∗ crd c 6 NH ∗ lrest m c ∗ buf c cc0_scratch3 qR (xbAt m (lf c))
            ∗ buf c cc0_scratch1 fullShare (wbAt m c) ∗ buf c cc0_stg1_0 fullShare (put (k0_off2 c) (k0_off2_inb c) fo (yAt m c (lf c))))
          -∗ Q (k0_pay12 v (yAt m c (lf c)))))
      ⊢ wp frame (wpE (defs₀ (F := F)) 𝒱₀ (c : Thread nD τ) none) Set.univ (P5 c v5 v7 v) Q := by
  unfold P5
  simp only [k0_part5_eq_skeleton]; unfold k0_part5_skel
  simp only [Prog.lift, Prog.bind_op, Prog.bind_ret, Prog.pure_eq_ret]
  iintro ⟨#Hr, Ho, Hc8, Hp8, Ht6, Ht10, Hd, Hwb, Hout, Hk⟩
  unfold heldAny
  icases Hd with ⟨%fd, Hd⟩
  -- the left neighbour's rows have come
  iapply (wp_wl m K c 7 8 _ rfl (csem_dma 7 8 rfl (by decide)) 0 5 NB rfl (dutK_one 9 (by decide) (by decide)) rfl (by decide) (dst := lM) rfl) $$ [Hc8 Ho Hp8]
  · isplitr; · iexact Hr
    isplitl [Hc8]; · iexact Hc8
    isplitl [Ho] <;> iassumption
  iintro ⟨Ho, Hz8, Hpay⟩
  ihave Hpay := (Entails.of_eq (show payK m c (kOf (.dma 8)) 0 false = iprop(held c lM fullShare (xbAt m (lf c)) ∗ heldAny (dg c) sS3) from rfl)) $$ Hpay
  icases Hpay with ⟨Hl, Hs3⟩
  ihave Hl := (Entails.of_eq (held_whole c cc0_scratch3 fullShare (xbAt m (lf c)))) $$ Hl
  ihave Hl := (pointsTo_share (PosShare.mem_left_op_right fullShare)).1 $$ Hl
  icases Hl with ⟨HlL, HlR⟩
  ihave HlL := (pointsTo_split_subset (ℓ := (c : Thread nD τ).loc cc0_scratch3) (f := xbAt m (lf c)) (I := (lS0 : Memref sig .tc .vmem S512x4096 .bf16).view.set) (Finset.subset_univ _)).1 $$ HlL
  icases HlL with ⟨HlL, HlL'⟩
  -- their upper half goes on to the right
  iapply (wp_tx m K c _ (rt c) (dev5_eq c) 5 9 6 _ 10 _ rfl rfl (csem_dma 5 6 rfl (by decide)) (csem_dma 9 10 rfl (by decide)) 4 NH
      rfl rfl rfl rfl rfl rfl (src := lS0) (dst := dS0) rfl qL (xbAt m (lf c)) fd iprop(emp) (Entails.of_eq rfl) (pay_r2 m c fd)) $$ [HlL Hd Ho Ht6 Ht10]
  · isplitr; · iexact Hr
    isplitl [HlL]; · iexact HlL
    isplitl [Hd]
    · isplitl [Hd]; · iexact Hd
      iempintro
    isplitl [Ho]; · iexact Ho
    isplitl [Ht6] <;> iassumption
  iintro ⟨Hc6, Ho⟩
  -- the product with them
  iapply (wp_load 𝒱₀ (c : Thread nD τ) none Set.univ (m := lM) (Finset.subset_univ _)) $$ HlR; iintro HlR
  rw [read_l]
  iapply (wp_load 𝒱₀ (c : Thread nD τ) none Set.univ (m := wbM) (Finset.subset_univ _)) $$ Hwb; iintro Hwb
  rw [read_wb]
  iapply (wp_load 𝒱₀ (c : Thread nD τ) none Set.univ (m := oM) (Finset.subset_univ _)) $$ Hout; iintro Hout
  iapply (wp_store 𝒱₀ (c : Thread nD τ) none Set.univ (m := oM) (r := (oR (k0_off2 c) (k0_off2_inb c))) (Mk := Finset.univ) (Finset.subset_univ _)) $$ Hout; iintro Hout
  iapply (wp_load 𝒱₀ (c : Thread nD τ) none Set.univ (m := oM) (Finset.subset_univ _)) $$ Hout; iintro Hout
  rw [chunk_hit, show k0_pay11 (xbAt m (lf c)) (wbAt m c) = yAt m c (lf c) from rfl]
  rw [wp_ret]; imodintro
  iapply Hk
  isplitl [Ho]; · iexact Ho
  isplitl [Hz8]; · iexact Hz8
  isplitl [Hs3]; · unfold heldAny; iexact Hs3
  isplitl [Hc6]; · iexact Hc6
  isplitl [HlL']; · iexact HlL'
  isplitl [HlR]; · iexact HlR
  isplitl [Hwb]; · iexact Hwb
  iexact Hout

/-- The sixth part: the right neighbour's rows come, their lower half goes on to the left, the product with them; half of
    the opposite device's rows comes. -/
theorem part6 (c : Dev nD) (fo : Buf (Elt F) ((c : Thread nD τ).loc cc0_stg1_0)) (v5 v7 : BitVec 32) (v : F .f32) (Q : F .f32 → sProp 𝕄) :
    iprop(recs m K ∗ ow c 4
        ∗ crd c 9 NB ∗ pos c 9 0 ∗ crd c 10 NH ∗ pos c 10 0
        ∗ tok c 7 0 ∗ tok (lf c) 11 0 ∗ heldAny (lf c) dS1
        ∗ buf c cc0_scratch1 fullShare (wbAt m c) ∗ buf c cc0_stg1_0 fullShare fo
        ∗ ((ow c 3 ∗ semVal (cell c 9) 0 ∗ semVal (cell c 10) 0 ∗ crd c 7 NH ∗ rrest m c ∗ buf c cc0_scratch4 qR (xbAt m (rt c)) ∗ held c dS0 fullShare (xbAt m (dg c))
            ∗ buf c cc0_scratch1 fullShare (wbAt m c) ∗ buf c cc0_stg1_0 fullShare (put (k0_off3 c 1#32) (k0_off3_inb c 0) fo (yAt m c (rt c))))
          -∗ Q (k0_pay14 v (yAt m c (rt c)))))
      ⊢ wp frame (wpE (defs₀ (F := F)) 𝒱₀ (c : Thread nD τ) none) Set.univ (P6 c v5 v7 v) Q := by
  unfold P6
  simp only [k0_part6_eq_skeleton]; unfold k0_part6_skel
  simp only [Prog.lift, Prog.bind_op, Prog.bind_ret, Prog.pure_eq_ret]
  iintro ⟨#Hr, Ho, Hc9, Hp9, Hc10, Hp10, Ht7, Ht11, Hd, Hwb, Hout, Hk⟩
  unfold heldAny
  icases Hd with ⟨%fd, Hd⟩
  -- the right neighbour's rows have come
  iapply (wp_wl m K c 8 9 _ rfl (csem_dma 8 9 rfl (by decide)) 0 4 NB rfl (dutK_one 10 (by decide) (by decide)) rfl (by decide) (dst := rM) rfl) $$ [Hc9 Ho Hp9]
  · isplitr; · iexact Hr
    isplitl [Hc9]; · iexact Hc9
    isplitl [Ho] <;> iassumption
  iintro ⟨Ho, Hz9, Hpay⟩
  ihave Hpay := (Entails.of_eq (show payK m c (kOf (.dma 9)) 0 false = held c rM fullShare (xbAt m (rt c)) from rfl)) $$ Hpay
  icases Hpay with Hl
  ihave Hl := (Entails.of_eq (held_whole c cc0_scratch4 fullShare (xbAt m (rt c)))) $$ Hl
  ihave Hl := (pointsTo_share (PosShare.mem_left_op_right fullShare)).1 $$ Hl
  icases Hl with ⟨HlL, HlR⟩
  ihave HlL := (pointsTo_split_subset (ℓ := (c : Thread nD τ).loc cc0_scratch4) (f := xbAt m (rt c)) (I := (rS1 : Memref sig .tc .vmem S512x4096 .bf16).view.set) (Finset.subset_univ _)).1 $$ HlL
  icases HlL with ⟨HlL, HlL'⟩
  -- their lower half goes on to the left
  iapply (wp_tx m K c _ (lf c) (dev6_eq c) 6 10 7 _ 11 _ rfl rfl (csem_dma 6 7 rfl (by decide)) (csem_dma 10 11 rfl (by decide)) 3 NH
      rfl rfl rfl rfl rfl rfl (src := rS1) (dst := dS1) rfl qL (xbAt m (rt c)) fd iprop(emp) (Entails.of_eq rfl) (pay_r3 m c fd)) $$ [HlL Hd Ho Ht7 Ht11]
  · isplitr; · iexact Hr
    isplitl [HlL]; · iexact HlL
    isplitl [Hd]
    · isplitl [Hd]; · iexact Hd
      iempintro
    isplitl [Ho]; · iexact Ho
    isplitl [Ht7] <;> iassumption
  iintro ⟨Hc7, Ho⟩
  -- the product with them
  iapply (wp_load 𝒱₀ (c : Thread nD τ) none Set.univ (m := rM) (Finset.subset_univ _)) $$ HlR; iintro HlR
  rw [read_r]
  iapply (wp_load 𝒱₀ (c : Thread nD τ) none Set.univ (m := wbM) (Finset.subset_univ _)) $$ Hwb; iintro Hwb
  rw [read_wb]
  iapply (wp_load 𝒱₀ (c : Thread nD τ) none Set.univ (m := oM) (Finset.subset_univ _)) $$ Hout; iintro Hout
  iapply (wp_store 𝒱₀ (c : Thread nD τ) none Set.univ (m := oM) (r := (oR (k0_off3 c 1#32) (k0_off3_inb c 0))) (Mk := Finset.univ) (Finset.subset_univ _)) $$ Hout; iintro Hout
  iapply (wp_load 𝒱₀ (c : Thread nD τ) none Set.univ (m := oM) (Finset.subset_univ _)) $$ Hout; iintro Hout
  rw [chunk_hit, show k0_pay13 (xbAt m (rt c)) (wbAt m c) = yAt m c (rt c) from rfl]
  -- the upper half of the opposite device's rows
  iapply (wp_wl m K c 9 10 _ rfl (csem_dma 9 10 rfl (by decide)) 0 3 NH rfl (dutK_one 11 (by decide) (by decide)) rfl (by decide) (dst := dS0) rfl) $$ [Hc10 Ho Hp10]
  · isplitr; · iexact Hr
    isplitl [Hc10]; · iexact Hc10
    isplitl [Ho] <;> iassumption
  iintro ⟨Ho, Hz10, Hpay⟩
  ihave Hpay := (Entails.of_eq (show payK m c (kOf (.dma 10)) 0 false = held c dS0 fullShare (xbAt m (dg c)) from rfl)) $$ Hpay
  icases Hpay with Hd0
  rw [wp_ret]; imodintro
  iapply Hk
  isplitl [Ho]; · iexact Ho
  isplitl [Hz9]; · iexact Hz9
  isplitl [Hz10]; · iexact Hz10
  isplitl [Hc7]; · iexact Hc7
  isplitl [HlL']; · iexact HlL'
  isplitl [HlR]; · iexact HlR
  isplitl [Hd0]; · iexact Hd0
  isplitl [Hwb]; · iexact Hwb
  iexact Hout

/-- The seventh part: the rest of the opposite device's rows comes, the product with them; its own rows are no longer lent. -/
theorem part7 (c : Dev nD) (fo : Buf (Elt F) ((c : Thread nD τ).loc cc0_stg1_0)) (v5 v9 : BitVec 32) (v : F .f32) (Q : F .f32 → sProp 𝕄) :
    iprop(recs m K ∗ ow c 3
        ∗ crd c 11 NH ∗ pos c 11 0 ∗ crd c 4 NB ∗ pos c 4 0 ∗ crd c 5 NB ∗ pos c 5 0
        ∗ held c dS0 fullShare (xbAt m (dg c)) ∗ buf c cc0_scratch0 qC (xbAt m c)
        ∗ buf c cc0_scratch1 fullShare (wbAt m c) ∗ buf c cc0_stg1_0 fullShare fo
        ∗ ((ow c 3 ∗ semVal (cell c 11) 0 ∗ semVal (cell c 4) 0 ∗ semVal (cell c 5) 0 ∗ buf c cc0_scratch5 fullShare (xbAt m (dg c)) ∗ buf c cc0_scratch0 fullShare (xbAt m c)
            ∗ buf c cc0_scratch1 fullShare (wbAt m c) ∗ buf c cc0_stg1_0 fullShare (put (k0_off3 c 2#32) (k0_off3_inb c 1) fo (yAt m c (dg c))))
          -∗ Q (k0_pay16 v (yAt m c (dg c)))))
      ⊢ wp frame (wpE (defs₀ (F := F)) 𝒱₀ (c : Thread nD τ) none) Set.univ (P7 c v5 v9 v) Q := by
  unfold P7
  simp only [k0_part7_eq_skeleton]; unfold k0_part7_skel
  simp only [Prog.lift, Prog.bind_op, Prog.bind_ret, Prog.pure_eq_ret]
  iintro ⟨#Hr, Ho, Hc11, Hp11, Hc4, Hp4, Hc5, Hp5, Hd0, HbC, Hwb, Hout, Hk⟩
  iapply (wp_wl m K c 10 11 _ rfl (csem_dma 10 11 rfl (by decide)) 0 3 NH rfl (dutK_one 12 (by decide) (by decide)) rfl (by decide) (dst := dS1) rfl) $$ [Hc11 Ho Hp11]
  · isplitr; · iexact Hr
    isplitl [Hc11]; · iexact Hc11
    isplitl [Ho] <;> iassumption
  iintro ⟨Ho, Hz11, Hpay⟩
  ihave Hpay := (Entails.of_eq (show payK m c (kOf (.dma 11)) 0 false = held c dS1 fullShare (xbAt m (dg c)) from rfl)) $$ Hpay
  icases Hpay with Hd1
  ihave Hd := (pointsTo_union (ℓ := (c : Thread nD τ).loc cc0_scratch5) (f := xbAt m (dg c)) (q := fullShare) d_disj).2 $$ [Hd0 Hd1]
  · isplitl [Hd0] <;> iassumption
  ihave Hd := (Entails.of_eq (show (((c : Thread nD τ).loc cc0_scratch5) ↦[(dS0 : Memref sig .tc .vmem S512x4096 .bf16).view.set ∪ (dS1 : Memref sig .tc .vmem S512x4096 .bf16).view.set]{fullShare} (xbAt m (dg c)) : sProp 𝕄)
    = buf c cc0_scratch5 fullShare (xbAt m (dg c)) from by rw [d_union])) $$ Hd
  -- the product with the opposite device's rows
  iapply (wp_load 𝒱₀ (c : Thread nD τ) none Set.univ (m := dM) (Finset.subset_univ _)) $$ Hd; iintro Hd
  rw [read_d]
  iapply (wp_load 𝒱₀ (c : Thread nD τ) none Set.univ (m := wbM) (Finset.subset_univ _)) $$ Hwb; iintro Hwb
  rw [read_wb]
  iapply (wp_load 𝒱₀ (c : Thread nD τ) none Set.univ (m := oM) (Finset.subset_univ _)) $$ Hout; iintro Hout
  iapply (wp_store 𝒱₀ (c : Thread nD τ) none Set.univ (m := oM) (r := (oR (k0_off3 c 2#32) (k0_off3_inb c 1))) (Mk := Finset.univ) (Finset.subset_univ _)) $$ Hout; iintro Hout
  iapply (wp_load 𝒱₀ (c : Thread nD τ) none Set.univ (m := oM) (Finset.subset_univ _)) $$ Hout; iintro Hout
  rw [chunk_hit, show k0_pay15 (xbAt m (dg c)) (wbAt m c) = yAt m c (dg c) from rfl]
  -- its own rows are back
  iapply (wp_wl m K c 3 4 _ rfl (csem_dma 3 4 rfl (by decide)) 0 3 NB rfl (dutK_one 5 (by decide) (by decide)) rfl (by decide) (dst := bM) rfl) $$ [Hc4 Ho Hp4]
  · isplitr; · iexact Hr
    isplitl [Hc4]; · iexact Hc4
    isplitl [Ho] <;> iassumption
  iintro ⟨Ho, Hz4, Hpay⟩
  ihave Hpay := (Entails.of_eq (show payK m c (kOf (.dma 4)) 0 false = held c bM qA (xbAt m c) from rfl)) $$ Hpay
  icases Hpay with HbA
  iapply (wp_wl m K c 4 5 _ rfl (csem_dma 4 5 rfl (by decide)) 0 3 NB rfl (dutK_one 6 (by decide) (by decide)) rfl (by decide) (dst := bM) rfl) $$ [Hc5 Ho Hp5]
  · isplitr; · iexact Hr
    isplitl [Hc5]; · iexact Hc5
    isplitl [Ho] <;> iassumption
  iintro ⟨Ho, Hz5, Hpay⟩
  ihave Hpay := (Entails.of_eq (show payK m c (kOf (.dma 5)) 0 false = held c bM qB (xbAt m c) from rfl)) $$ Hpay
  icases Hpay with HbB
  ihave HbA := (Entails.of_eq (held_whole c cc0_scratch0 qA (xbAt m c))) $$ HbA
  ihave HbB := (Entails.of_eq (held_whole c cc0_scratch0 qB (xbAt m c))) $$ HbB
  ihave Hb := (pointsTo_share (PosShare.mem_left_op_right fullShare.right)).2 $$ [HbB HbC]
  · isplitl [HbB] <;> iassumption
  ihave Hb := (pointsTo_share (PosShare.mem_left_op_right fullShare)).2 $$ [HbA Hb]
  · isplitl [HbA] <;> iassumption
  rw [wp_ret]; imodintro
  iapply Hk
  isplitl [Ho]; · iexact Ho
  isplitl [Hz11]; · iexact Hz11
  isplitl [Hz4]; · iexact Hz4
  isplitl [Hz5]; · iexact Hz5
  isplitl [Hd]; · iexact Hd
  isplitl [Hb]; · iexact Hb
  isplitl [Hwb]; · iexact Hwb
  iexact Hout

end Cert.KernelProof

end
-- ==== Proof.Body3.lean ====
/-
The kernel's last parts: the largest magnitudes exchanged, and the result scaled, clipped, rounded and scaled back.
-/
module

public import proofs.«01_k».proof.Proof.Body2

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 17 → ℕ)

/-- The kernel's parts on its buffers and semaphores. -/
abbrev P8 := k0_part8 (F := F) xM (Memref.isWhole_whole _) wM (Memref.isWhole_whole _) oM (Memref.isWhole_whole _) bM (Memref.isWhole_whole _) wbM (Memref.isWhole_whole _) gM (Memref.isWhole_whole _) lM (Memref.isWhole_whole _) rM (Memref.isWhole_whole _) dM (Memref.isWhole_whole _) sM (Memref.isWhole_whole _) cc0_scratch7 cc0_scratch8 cc0_scratch9 cc0_scratch10 cc0_scratch11
abbrev P9 := k0_part9 (F := F) xM (Memref.isWhole_whole _) wM (Memref.isWhole_whole _) oM (Memref.isWhole_whole _) bM (Memref.isWhole_whole _) wbM (Memref.isWhole_whole _) gM (Memref.isWhole_whole _) lM (Memref.isWhole_whole _) rM (Memref.isWhole_whole _) dM (Memref.isWhole_whole _) sM (Memref.isWhole_whole _) cc0_scratch7 cc0_scratch8 cc0_scratch9 cc0_scratch10 cc0_scratch11
abbrev P10 := k0_part10 (F := F) xM (Memref.isWhole_whole _) wM (Memref.isWhole_whole _) oM (Memref.isWhole_whole _) bM (Memref.isWhole_whole _) wbM (Memref.isWhole_whole _) gM (Memref.isWhole_whole _) lM (Memref.isWhole_whole _) rM (Memref.isWhole_whole _) dM (Memref.isWhole_whole _) sM (Memref.isWhole_whole _) cc0_scratch7 cc0_scratch8 cc0_scratch9 cc0_scratch10 cc0_scratch11
abbrev P11 := k0_part11 (F := F) xM (Memref.isWhole_whole _) wM (Memref.isWhole_whole _) oM (Memref.isWhole_whole _) bM (Memref.isWhole_whole _) wbM (Memref.isWhole_whole _) gM (Memref.isWhole_whole _) lM (Memref.isWhole_whole _) rM (Memref.isWhole_whole _) dM (Memref.isWhole_whole _) sM (Memref.isWhole_whole _) cc0_scratch7 cc0_scratch8 cc0_scratch9 cc0_scratch10 cc0_scratch11

/-! ## The maxima -/

omit [FloatOps F] in
/-- The four slots are the whole buffer of maxima. -/
theorem s_join (c : Dev nD) (f : Buf (Elt F) ((c : Thread nD τ).loc cc0_scratch6)) :
    iprop(held c sS0 fullShare f ∗ held c sS1 fullShare f ∗ held c sS2 fullShare f ∗ held c sS3 fullShare f)
      ⊢ (buf c cc0_scratch6 fullShare f : sProp 𝕄) := by
  have d3 : Disjoint (sS2 : Memref sig .tc .vmem S8x128 .f32).view.set (sS3 : Memref sig .tc .vmem S8x128 .f32).view.set := Finset.disjoint_left.mpr fun i h h' => by
    have := (mem_sS2 i).mp h; have := (mem_sS3 i).mp h'; omega
  have d2 : Disjoint (sS1 : Memref sig .tc .vmem S8x128 .f32).view.set ((sS2 : Memref sig .tc .vmem S8x128 .f32).view.set ∪ (sS3 : Memref sig .tc .vmem S8x128 .f32).view.set) := Finset.disjoint_left.mpr fun i h h' => by
    have := (mem_sS1 i).mp h
    rcases Finset.mem_union.mp h' with h' | h'
    · have := (mem_sS2 i).mp h'; omega
    · have := (mem_sS3 i).mp h'; omega
  have d1 : Disjoint (sS0 : Memref sig .tc .vmem S8x128 .f32).view.set ((sS1 : Memref sig .tc .vmem S8x128 .f32).view.set ∪ ((sS2 : Memref sig .tc .vmem S8x128 .f32).view.set ∪ (sS3 : Memref sig .tc .vmem S8x128 .f32).view.set)) := Finset.disjoint_left.mpr fun i h h' => by
    have := (mem_sS0 i).mp h
    rcases Finset.mem_union.mp h' with h' | h'
    · have := (mem_sS1 i).mp h'; omega
    rcases Finset.mem_union.mp h' with h' | h'
    · have := (mem_sS2 i).mp h'; omega
    · have := (mem_sS3 i).mp h'; omega
  have hu : (sS0 : Memref sig .tc .vmem S8x128 .f32).view.set ∪ ((sS1 : Memref sig .tc .vmem S8x128 .f32).view.set ∪ ((sS2 : Memref sig .tc .vmem S8x128 .f32).view.set ∪ (sS3 : Memref sig .tc .vmem S8x128 .f32).view.set)) = Finset.univ := by
    refine Finset.eq_univ_iff_forall.mpr fun (i : S4x8x128.Idx) => ?_
    have h : (i 0).val < 4 := (i 0).isLt
    rcases (show (i 0).val = 0 ∨ (i 0).val = 1 ∨ (i 0).val = 2 ∨ (i 0).val = 3 by omega) with h | h | h | h
    · exact Finset.mem_union_left _ ((mem_sS0 i).mpr h)
    · exact Finset.mem_union_right _ (Finset.mem_union_left _ ((mem_sS1 i).mpr h))
    · exact Finset.mem_union_right _ (Finset.mem_union_right _ (Finset.mem_union_left _ ((mem_sS2 i).mpr h)))
    · exact Finset.mem_union_right _ (Finset.mem_union_right _ (Finset.mem_union_right _ ((mem_sS3 i).mpr h)))
  iintro ⟨H0, H1, H2, H3⟩
  ihave H := (pointsTo_union (ℓ := (c : Thread nD τ).loc cc0_scratch6) (f := f) (q := fullShare) d3).2 $$ [H2 H3]
  · isplitl [H2] <;> iassumption
  ihave H := (pointsTo_union (ℓ := (c : Thread nD τ).loc cc0_scratch6) (f := f) (q := fullShare) d2).2 $$ [H1 H]
  · isplitl [H1] <;> iassumption
  ihave H := (pointsTo_union (ℓ := (c : Thread nD τ).loc cc0_scratch6) (f := f) (q := fullShare) d1).2 $$ [H0 H]
  · isplitl [H0] <;> iassumption
  ihave H := (Entails.of_eq (show (((c : Thread nD τ).loc cc0_scratch6) ↦[(sS0 : Memref sig .tc .vmem S8x128 .f32).view.set ∪ ((sS1 : Memref sig .tc .vmem S8x128 .f32).view.set ∪ ((sS2 : Memref sig .tc .vmem S8x128 .f32).view.set ∪ (sS3 : Memref sig .tc .vmem S8x128 .f32).view.set))]{fullShare} f : sProp 𝕄)
    = buf c cc0_scratch6 fullShare f from by rw [hu])) $$ H
  iexact H

/-- The device's own maximum, as it comes into slot 1 of the device it is sent to. -/
theorem pay_s1 (c : Dev nD) (fd : Vec F S4x8x128 .f32) :
    iprop(((sS1 : Memref sig .tc .vmem S8x128 .f32).view.loc (Dev.tc (rt c) : Thread nD τ) ↦[(sS1 : Memref sig .tc .vmem S8x128 .f32).view.set]{fullShare}
        ((sS1 : Memref sig .tc .vmem S8x128 .f32).view.write (Elt F) fd ((sS0 : Memref sig .tc .vmem S8x128 .f32).view.read (Elt F) (scAt m c)) Finset.univ))
      ∗ emp) ⊢ payK m (rt c) (kOf (.dma 15)) 0 false := by
  rw [pointsTo_congr (sent_s1 m c fd)]
  show _ ⊢ (held (rt c) sS1 fullShare (scAt m (rt c)) : sProp 𝕄)
  iintro ⟨H, -⟩; iexact H

/-- The device's own maximum, as it comes into slot 2 of the device it is sent to. -/
theorem pay_s2 (c : Dev nD) (fd : Vec F S4x8x128 .f32) :
    iprop(((sS2 : Memref sig .tc .vmem S8x128 .f32).view.loc (Dev.tc (lf c) : Thread nD τ) ↦[(sS2 : Memref sig .tc .vmem S8x128 .f32).view.set]{fullShare}
        ((sS2 : Memref sig .tc .vmem S8x128 .f32).view.write (Elt F) fd ((sS0 : Memref sig .tc .vmem S8x128 .f32).view.read (Elt F) (scAt m c)) Finset.univ))
      ∗ emp) ⊢ payK m (lf c) (kOf (.dma 16)) 0 false := by
  rw [pointsTo_congr (sent_s2 m c fd)]
  show _ ⊢ (held (lf c) sS2 fullShare (scAt m (lf c)) : sProp 𝕄)
  iintro ⟨H, -⟩; iexact H

/-- The device's own maximum, as it comes into slot 3 of the device it is sent to. -/
theorem pay_s3 (c : Dev nD) (fd : Vec F S4x8x128 .f32) :
    iprop(((sS3 : Memref sig .tc .vmem S8x128 .f32).view.loc (Dev.tc (dg c) : Thread nD τ) ↦[(sS3 : Memref sig .tc .vmem S8x128 .f32).view.set]{fullShare}
        ((sS3 : Memref sig .tc .vmem S8x128 .f32).view.write (Elt F) fd ((sS0 : Memref sig .tc .vmem S8x128 .f32).view.read (Elt F) (scAt m c)) Finset.univ))
      ∗ emp) ⊢ payK m (dg c) (kOf (.dma 17)) 0 false := by
  rw [pointsTo_congr (sent_s3 m c fd)]
  show _ ⊢ (held (dg c) sS3 fullShare (scAt m (dg c)) : sProp 𝕄)
  iintro ⟨H, -⟩; iexact H

/-- The eighth part: the neighbours' rows no longer lent; its own largest magnitude, stored and sent to the right. -/
theorem part8 (c : Dev nD) (fs : Buf (Elt F) ((c : Thread nD τ).loc cc0_scratch6)) (v5 v7 : BitVec 32) (Q : PUnit → sProp 𝕄) :
    iprop(recs m K ∗ ow c 3
        ∗ crd c 6 NH ∗ pos c 6 0 ∗ crd c 7 NH ∗ pos c 7 0
        ∗ lrest m c ∗ buf c cc0_scratch3 qR (xbAt m (lf c)) ∗ rrest m c ∗ buf c cc0_scratch4 qR (xbAt m (rt c))
        ∗ tok c 12 0 ∗ tok (rt c) 15 0 ∗ held c sS0 fullShare fs ∗ heldAny (rt c) sS1
        ∗ ((ow c 2 ∗ semVal (cell c 6) 0 ∗ semVal (cell c 7) 0 ∗ buf c cc0_scratch3 fullShare (xbAt m (lf c)) ∗ buf c cc0_scratch4 fullShare (xbAt m (rt c))
            ∗ crd c 12 NS ∗ held c sS0 qB (scAt m c) ∗ held c sS0 qC (scAt m c))
          -∗ Q ⟨⟩))
      ⊢ wp frame (wpE (defs₀ (F := F)) 𝒱₀ (c : Thread nD τ) none) Set.univ (P8 c v5 v7 (amax m c)) Q := by
  unfold P8
  simp only [k0_part8_eq_skeleton]; unfold k0_part8_skel
  simp only [Prog.lift, Prog.bind_op, Prog.bind_ret, Prog.pure_eq_ret]
  iintro ⟨#Hr, Ho, Hc6, Hp6, Hc7, Hp7, Hlr, HlR, Hrr, HrR, Ht12, Ht15, Hs0, Hd, Hk⟩
  unfold heldAny
  icases Hd with ⟨%fd, Hd⟩
  -- the neighbours' rows are no longer lent
  iapply (wp_wl m K c 5 6 _ rfl (csem_dma 5 6 rfl (by decide)) 0 3 NH rfl (dutK_one 7 (by decide) (by decide)) rfl (by decide) (dst := lS0) rfl) $$ [Hc6 Ho Hp6]
  · isplitr; · iexact Hr
    isplitl [Hc6]; · iexact Hc6
    isplitl [Ho] <;> iassumption
  iintro ⟨Ho, Hz6, Hpay⟩
  ihave Hpay := (Entails.of_eq (show payK m c (kOf (.dma 6)) 0 false = held c lS0 qL (xbAt m (lf c)) from rfl)) $$ Hpay
  icases Hpay with HlL
  iapply (wp_wl m K c 6 7 _ rfl (csem_dma 6 7 rfl (by decide)) 0 3 NH rfl (dutK_one 8 (by decide) (by decide)) rfl (by decide) (dst := rS1) rfl) $$ [Hc7 Ho Hp7]
  · isplitr; · iexact Hr
    isplitl [Hc7]; · iexact Hc7
    isplitl [Ho] <;> iassumption
  iintro ⟨Ho, Hz7, Hpay⟩
  ihave Hpay := (Entails.of_eq (show payK m c (kOf (.dma 7)) 0 false = held c rS1 qL (xbAt m (rt c)) from rfl)) $$ Hpay
  icases Hpay with HrL
  ihave HlL := (pointsTo_split_subset (ℓ := (c : Thread nD τ).loc cc0_scratch3) (f := xbAt m (lf c)) (I := (lS0 : Memref sig .tc .vmem S512x4096 .bf16).view.set) (Finset.subset_univ _)).2 $$ [HlL Hlr]
  · isplitl [HlL] <;> iassumption
  ihave Hl := (pointsTo_share (PosShare.mem_left_op_right fullShare)).2 $$ [HlL HlR]
  · isplitl [HlL] <;> iassumption
  ihave HrL := (pointsTo_split_subset (ℓ := (c : Thread nD τ).loc cc0_scratch4) (f := xbAt m (rt c)) (I := (rS1 : Memref sig .tc .vmem S512x4096 .bf16).view.set) (Finset.subset_univ _)).2 $$ [HrL Hrr]
  · isplitl [HrL] <;> iassumption
  ihave Hrr := (pointsTo_share (PosShare.mem_left_op_right fullShare)).2 $$ [HrL HrR]
  · isplitl [HrL] <;> iassumption
  -- its own maximum into its first slot
  iapply (wp_load 𝒱₀ (c : Thread nD τ) none Set.univ (m := sM) s_load0) $$ Hs0; iintro Hs0
  iapply (wp_store 𝒱₀ (c : Thread nD τ) none Set.univ (m := sM) (r := sR0) (Mk := Finset.univ) s_store0) $$ Hs0; iintro Hs0
  ihave Hs0 := (Entails.of_eq (pointsTo_congr (ℓ := (c : Thread nD τ).loc cc0_scratch6) (q := fullShare) (stored_s0 m c fs))) $$ Hs0
  ihave Hs0 := (pointsTo_share (PosShare.mem_left_op_right fullShare)).1 $$ Hs0
  icases Hs0 with ⟨Hs0A, Hs0⟩
  ihave Hs0 := (pointsTo_share (PosShare.mem_left_op_right fullShare.right)).1 $$ Hs0
  icases Hs0 with ⟨Hs0B, Hs0C⟩
  -- and to the right
  iapply (wp_tx m K c _ (rt c) (dev7_eq c) 11 14 12 _ 15 _ rfl rfl (csem_dma 11 12 rfl (by decide)) (csem_dma 14 15 rfl (by decide)) 2 NS
      rfl rfl rfl rfl rfl rfl (src := sS0) (dst := sS1) rfl qA (scAt m c) fd iprop(emp) (Entails.of_eq rfl) (pay_s1 m c fd)) $$ [Hs0A Hd Ho Ht12 Ht15]
  · isplitr; · iexact Hr
    isplitl [Hs0A]; · iexact Hs0A
    isplitl [Hd]
    · isplitl [Hd]; · iexact Hd
      iempintro
    isplitl [Ho]; · iexact Ho
    isplitl [Ht12] <;> iassumption
  iintro ⟨Hc12, Ho⟩
  rw [wp_ret]; imodintro
  iapply Hk
  isplitl [Ho]; · iexact Ho
  isplitl [Hz6]; · iexact Hz6
  isplitl [Hz7]; · iexact Hz7
  isplitl [Hl]; · iexact Hl
  isplitl [Hrr]; · iexact Hrr
  isplitl [Hc12]; · iexact Hc12
  isplitl [Hs0B]; · iexact Hs0B
  iexact Hs0C

/-- The ninth part: its own largest magnitude to the left and to the opposite device; the left neighbour's comes. -/
theorem part9 (c : Dev nD) (v5 v7 v9 : BitVec 32) (Q : PUnit → sProp 𝕄) :
    iprop(recs m K ∗ ow c 2
        ∗ tok c 13 0 ∗ tok (lf c) 16 0 ∗ tok c 14 0 ∗ tok (dg c) 17 0
        ∗ held c sS0 qB (scAt m c) ∗ held c sS0 qC (scAt m c) ∗ heldAny (lf c) sS2 ∗ heldAny (dg c) sS3
        ∗ crd c 15 NS ∗ pos c 15 0
        ∗ ((ow c 0 ∗ crd c 13 NS ∗ crd c 14 NS ∗ semVal (cell c 15) 0 ∗ held c sS1 fullShare (scAt m c))
          -∗ Q ⟨⟩))
      ⊢ wp frame (wpE (defs₀ (F := F)) 𝒱₀ (c : Thread nD τ) none) Set.univ (P9 c v5 v7 v9) Q := by
  unfold P9
  simp only [k0_part9_eq_skeleton]; unfold k0_part9_skel
  simp only [Prog.lift, Prog.bind_op, Prog.bind_ret, Prog.pure_eq_ret]
  iintro ⟨#Hr, Ho, Ht13, Ht16, Ht14, Ht17, Hs0B, Hs0C, Hd2, Hd3, Hc15, Hp15, Hk⟩
  unfold heldAny
  icases Hd2 with ⟨%f2, Hd2⟩
  icases Hd3 with ⟨%f3, Hd3⟩
  iapply (wp_tx m K c _ (lf c) (dev8_eq c) 12 15 13 _ 16 _ rfl rfl (csem_dma 12 13 rfl (by decide)) (csem_dma 15 16 rfl (by decide)) 1 NS
      rfl rfl rfl rfl rfl rfl (src := sS0) (dst := sS2) rfl qB (scAt m c) f2 iprop(emp) (Entails.of_eq rfl) (pay_s2 m c f2)) $$ [Hs0B Hd2 Ho Ht13 Ht16]
  · isplitr; · iexact Hr
    isplitl [Hs0B]; · iexact Hs0B
    isplitl [Hd2]
    · isplitl [Hd2]; · iexact Hd2
      iempintro
    isplitl [Ho]; · iexact Ho
    isplitl [Ht13] <;> iassumption
  iintro ⟨Hc13, Ho⟩
  iapply (wp_tx m K c _ (dg c) (dev9_eq c) 13 16 14 _ 17 _ rfl rfl (csem_dma 13 14 rfl (by decide)) (csem_dma 16 17 rfl (by decide)) 0 NS
      rfl rfl rfl rfl rfl rfl (src := sS0) (dst := sS3) rfl qC (scAt m c) f3 iprop(emp) (Entails.of_eq rfl) (pay_s3 m c f3)) $$ [Hs0C Hd3 Ho Ht14 Ht17]
  · isplitr; · iexact Hr
    isplitl [Hs0C]; · iexact Hs0C
    isplitl [Hd3]
    · isplitl [Hd3]; · iexact Hd3
      iempintro
    isplitl [Ho]; · iexact Ho
    isplitl [Ht14] <;> iassumption
  iintro ⟨Hc14, Ho⟩
  iapply (wp_wl m K c 14 15 _ rfl (csem_dma 14 15 rfl (by decide)) 0 0 NS rfl (dutK_one 16 (by decide) (by decide)) rfl (by decide) (dst := sS1) rfl) $$ [Hc15 Ho Hp15]
  · isplitr; · iexact Hr
    isplitl [Hc15]; · iexact Hc15
    isplitl [Ho] <;> iassumption
  iintro ⟨Ho, Hz15, Hpay⟩
  ihave Hpay := (Entails.of_eq (show payK m c (kOf (.dma 15)) 0 false = held c sS1 fullShare (scAt m c) from rfl)) $$ Hpay
  icases Hpay with Hs1
  rw [wp_ret]; imodintro
  iapply Hk
  isplitl [Ho]; · iexact Ho
  isplitl [Hc13]; · iexact Hc13
  isplitl [Hc14]; · iexact Hc14
  isplitl [Hz15]; · iexact Hz15
  iexact Hs1

/-- The tenth part: the other two magnitudes come, and its own is no longer lent to its neighbours. -/
theorem part10 (c : Dev nD) (v9 : BitVec 32) (Q : PUnit → sProp 𝕄) :
    iprop(recs m K ∗ ow c 0
        ∗ crd c 16 NS ∗ pos c 16 0 ∗ crd c 17 NS ∗ pos c 17 0
        ∗ crd c 12 NS ∗ pos c 12 0 ∗ crd c 13 NS ∗ pos c 13 0
        ∗ ((ow c 0 ∗ semVal (cell c 16) 0 ∗ semVal (cell c 17) 0 ∗ semVal (cell c 12) 0 ∗ semVal (cell c 13) 0
            ∗ held c sS2 fullShare (scAt m c) ∗ held c sS3 fullShare (scAt m c) ∗ held c sS0 qA (scAt m c) ∗ held c sS0 qB (scAt m c))
          -∗ Q ⟨⟩))
      ⊢ wp frame (wpE (defs₀ (F := F)) 𝒱₀ (c : Thread nD τ) none) Set.univ (P10 v9) Q := by
  unfold P10
  simp only [k0_part10_eq_skeleton]; unfold k0_part10_skel
  simp only [Prog.lift, Prog.bind_op, Prog.bind_ret, Prog.pure_eq_ret]
  iintro ⟨#Hr, Ho, Hc16, Hp16, Hc17, Hp17, Hc12, Hp12, Hc13, Hp13, Hk⟩
  iapply (wp_wl m K c 15 16 _ rfl (csem_dma 15 16 rfl (by decide)) 0 0 NS rfl (dutK_one 17 (by decide) (by decide)) rfl (by decide) (dst := sS2) rfl) $$ [Hc16 Ho Hp16]
  · isplitr; · iexact Hr
    isplitl [Hc16]; · iexact Hc16
    isplitl [Ho] <;> iassumption
  iintro ⟨Ho, Hz16, Hpay⟩
  ihave Hpay := (Entails.of_eq (show payK m c (kOf (.dma 16)) 0 false = held c sS2 fullShare (scAt m c) from rfl)) $$ Hpay
  icases Hpay with Hs2
  iapply (wp_wl m K c 16 17 _ rfl (csem_dma 16 17 rfl (by decide)) 0 0 NS rfl (dutK_one 18 (by decide) (by decide)) rfl (by decide) (dst := sS3) rfl) $$ [Hc17 Ho Hp17]
  · isplitr; · iexact Hr
    isplitl [Hc17]; · iexact Hc17
    isplitl [Ho] <;> iassumption
  iintro ⟨Ho, Hz17, Hpay⟩
  ihave Hpay := (Entails.of_eq (show payK m c (kOf (.dma 17)) 0 false = held c sS3 fullShare (scAt m c) from rfl)) $$ Hpay
  icases Hpay with Hs3
  iapply (wp_wl m K c 11 12 _ rfl (csem_dma 11 12 rfl (by decide)) 0 0 NS rfl (dutK_one 13 (by decide) (by decide)) rfl (by decide) (dst := sS0) rfl) $$ [Hc12 Ho Hp12]
  · isplitr; · iexact Hr
    isplitl [Hc12]; · iexact Hc12
    isplitl [Ho] <;> iassumption
  iintro ⟨Ho, Hz12, Hpay⟩
  ihave Hpay := (Entails.of_eq (show payK m c (kOf (.dma 12)) 0 false = held c sS0 qA (scAt m c) from rfl)) $$ Hpay
  icases Hpay with HsA
  iapply (wp_wl m K c 12 13 _ rfl (csem_dma 12 13 rfl (by decide)) 0 0 NS rfl (dutK_one 14 (by decide) (by decide)) rfl (by decide) (dst := sS0) rfl) $$ [Hc13 Ho Hp13]
  · isplitr; · iexact Hr
    isplitl [Hc13]; · iexact Hc13
    isplitl [Ho] <;> iassumption
  iintro ⟨Ho, Hz13, Hpay⟩
  ihave Hpay := (Entails.of_eq (show payK m c (kOf (.dma 13)) 0 false = held c sS0 qB (scAt m c) from rfl)) $$ Hpay
  icases Hpay with HsB
  rw [wp_ret]; imodintro
  iapply Hk
  isplitl [Ho]; · iexact Ho
  isplitl [Hz16]; · iexact Hz16
  isplitl [Hz17]; · iexact Hz17
  isplitl [Hz12]; · iexact Hz12
  isplitl [Hz13]; · iexact Hz13
  isplitl [Hs2]; · iexact Hs2
  isplitl [Hs3]; · iexact Hs3
  isplitl [HsA]; · iexact HsA
  iexact HsB

omit [FloatOps F] in
theorem hz3 : (![0, 0, 0] : Fin 3 → Nat) = fun _ => 0 := funext fun a => by fin_cases a <;> rfl
omit [FloatOps F] in
theorem read_s (f : Vec F S4x8x128 .f32) : (sM : Memref sig .tc .vmem S4x8x128 .f32).view.readAt (Elt F) (Rect.unit (s := S4x8x128) ![0, 0, 0] S4x8x128.size inb_S4x8x128_S4x8x128_0_0_0).toLoadRect f = f :=
  Memref.readAt_unit_zero (Elt F) cc0_scratch6 hz3 _ f

/-- The result as its chunks are scaled and rounded one after another. -/
abbrev r1 (c : Dev nD) := put ![0, 0] inb_S4096x512_S1024x512_0_0 (stack (yAt m c)) (outCh m c 0)
abbrev r2 (c : Dev nD) := put ![1024, 0] inb_S4096x512_S1024x512_1024_0 (r1 m c) (outCh m c 1)
abbrev r3 (c : Dev nD) := put ![2048, 0] inb_S4096x512_S1024x512_2048_0 (r2 m c) (outCh m c 2)
abbrev r4 (c : Dev nD) := put ![3072, 0] inb_S4096x512_S1024x512_3072_0 (r3 m c) (outCh m c 3)

/-- All four chunks done. -/
theorem r4_eq (c : Dev nD) : r4 m c = outAt m c :=
  stack_of_writes (outCh m c) (stack (yAt m c)) 0 1 2 3 (fun k => by revert k; decide) _ _ _ _ rfl rfl rfl rfl _ _ _ _

/-- Chunk 0 is read before it is changed. -/
theorem read_ch0 (c : Dev nD) : (oM : Memref sig .tc .vmem S4096x512 .f32).view.readAt (Elt F) (Rect.unit (s := S4096x512) ![0, 0] S1024x512.size inb_S4096x512_S1024x512_0_0).toLoadRect (stack (yAt m c)) = yAt m c 0 :=
   stack_read (yAt m c) 0 _ rfl _
/-- Chunk 1 is read before it is changed. -/
theorem read_ch1 (c : Dev nD) : (oM : Memref sig .tc .vmem S4096x512 .f32).view.readAt (Elt F) (Rect.unit (s := S4096x512) ![1024, 0] S1024x512.size inb_S4096x512_S1024x512_1024_0).toLoadRect (r1 m c) = yAt m c 1 :=
  (chunk_miss _ _ 1 0 (by decide) _ _ rfl rfl _ _).trans <| stack_read (yAt m c) 1 _ rfl _
/-- Chunk 2 is read before it is changed. -/
theorem read_ch2 (c : Dev nD) : (oM : Memref sig .tc .vmem S4096x512 .f32).view.readAt (Elt F) (Rect.unit (s := S4096x512) ![2048, 0] S1024x512.size inb_S4096x512_S1024x512_2048_0).toLoadRect (r2 m c) = yAt m c 2 :=
  (chunk_miss _ _ 2 1 (by decide) _ _ rfl rfl _ _).trans <| (chunk_miss _ _ 2 0 (by decide) _ _ rfl rfl _ _).trans <| stack_read (yAt m c) 2 _ rfl _
/-- Chunk 3 is read before it is changed. -/
theorem read_ch3 (c : Dev nD) : (oM : Memref sig .tc .vmem S4096x512 .f32).view.readAt (Elt F) (Rect.unit (s := S4096x512) ![3072, 0] S1024x512.size inb_S4096x512_S1024x512_3072_0).toLoadRect (r3 m c) = yAt m c 3 :=
  (chunk_miss _ _ 3 2 (by decide) _ _ rfl rfl _ _).trans <| (chunk_miss _ _ 3 1 (by decide) _ _ rfl rfl _ _).trans <| (chunk_miss _ _ 3 0 (by decide) _ _ rfl rfl _ _).trans <| stack_read (yAt m c) 3 _ rfl _

/-- The eleventh part: the maxima read together, the first chunk scaled and rounded, the second read. -/
theorem part11 (c : Dev nD)  (Q : (Σ' (v289 : F .f32) (v290 : F .f32), FVec F S1024x512 .fp8e4m3) → sProp 𝕄) :
    iprop(recs m K ∗ ow c 0
        ∗ crd c 14 NS ∗ pos c 14 0
        ∗ held c sS0 qA (scAt m c) ∗ held c sS0 qB (scAt m c) ∗ held c sS1 fullShare (scAt m c) ∗ held c sS2 fullShare (scAt m c) ∗ held c sS3 fullShare (scAt m c)
        ∗ buf c cc0_stg1_0 fullShare (stack (yAt m c))
        ∗ ((ow c 0 ∗ semVal (cell c 14) 0 ∗ buf c cc0_scratch6 fullShare (scAt m c) ∗ buf c cc0_stg1_0 fullShare (r1 m c))
          -∗ Q ⟨k0_pay19 (scAt m c), k0_pay20 (scAt m c), k0_pay22 (scAt m c) (yAt m c 1)⟩))
      ⊢ wp frame (wpE (defs₀ (F := F)) 𝒱₀ (c : Thread nD τ) none) Set.univ (P11) Q := by
  unfold P11
  simp only [k0_part11_eq_skeleton]; unfold k0_part11_skel
  simp only [Prog.lift, Prog.bind_op, Prog.bind_ret, Prog.pure_eq_ret]
  iintro ⟨#Hr, Ho, Hc14, Hp14, HsA, HsB, Hs1, Hs2, Hs3, Hout, Hk⟩
  iapply (wp_wl m K c 13 14 _ rfl (csem_dma 13 14 rfl (by decide)) 0 0 NS rfl (dutK_one 15 (by decide) (by decide)) rfl (by decide) (dst := sS0) rfl) $$ [Hc14 Ho Hp14]
  · isplitr; · iexact Hr
    isplitl [Hc14]; · iexact Hc14
    isplitl [Ho] <;> iassumption
  iintro ⟨Ho, Hz14, Hpay⟩
  ihave Hpay := (Entails.of_eq (show payK m c (kOf (.dma 14)) 0 false = held c sS0 qC (scAt m c) from rfl)) $$ Hpay
  icases Hpay with HsC
  ihave Hs := (pointsTo_share (PosShare.mem_left_op_right fullShare.right)).2 $$ [HsB HsC]
  · isplitl [HsB] <;> iassumption
  ihave Hs := (pointsTo_share (PosShare.mem_left_op_right fullShare)).2 $$ [HsA Hs]
  · isplitl [HsA] <;> iassumption
  ihave Hs := (s_join c (scAt m c)) $$ [Hs Hs1 Hs2 Hs3]
  · isplitl [Hs]; · iexact Hs
    isplitl [Hs1]; · iexact Hs1
    isplitl [Hs2] <;> iassumption
  iapply (wp_load 𝒱₀ (c : Thread nD τ) none Set.univ (m := sM) (Finset.subset_univ _)) $$ Hs; iintro Hs
  rw [read_s]
  iapply (wp_load 𝒱₀ (c : Thread nD τ) none Set.univ (m := oM) (Finset.subset_univ _)) $$ Hout; iintro Hout
  rw [read_ch0]
  iapply (wp_load 𝒱₀ (c : Thread nD τ) none Set.univ (m := oM) (Finset.subset_univ _)) $$ Hout; iintro Hout
  iapply (wp_store 𝒱₀ (c : Thread nD τ) none Set.univ (m := oM) (r := (oR ![0, 0] inb_S4096x512_S1024x512_0_0)) (Mk := Finset.univ) (Finset.subset_univ _)) $$ Hout; iintro Hout
  rw [show k0_pay21 (scAt m c) (yAt m c 0) = outCh m c 0 from rfl]
  iapply (wp_load 𝒱₀ (c : Thread nD τ) none Set.univ (m := oM) (Finset.subset_univ _)) $$ Hout; iintro Hout
  rw [show (oM : Memref sig .tc .vmem S4096x512 .f32).view.readAt (Elt F) (Rect.unit (s := S4096x512) ![1024, 0] S1024x512.size inb_S4096x512_S1024x512_1024_0).toLoadRect (put ![0, 0] inb_S4096x512_S1024x512_0_0 (stack (yAt m c)) (outCh m c 0)) = yAt m c 1 from read_ch1 m c]
  rw [wp_ret]; imodintro
  iapply Hk
  isplitl [Ho]; · iexact Ho
  isplitl [Hz14]; · iexact Hz14
  isplitl [Hs]; · iexact Hs
  iexact Hout

end Cert.KernelProof

end
-- ==== Proof.Body4.lean ====
/-
The whole kernel on one device, from what the launch gives it to what it leaves.
-/
module

public import proofs.«01_k».proof.Proof.Body3

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 17 → ℕ)

/-- A device's places in its seventeen cells. -/
def placesOf (c : Dev nD) : sProp 𝕄 :=
  iprop(atPos ER (bar c) 0 ∅ 0 ∗ pos c 2 0 ∗ pos c 3 0 ∗ pos c 4 0 ∗ pos c 5 0 ∗ pos c 6 0 ∗ pos c 7 0 ∗ pos c 8 0 ∗ pos c 9 0 ∗ pos c 10 0 ∗ pos c 11 0 ∗ pos c 12 0 ∗ pos c 13 0 ∗ pos c 14 0 ∗ pos c 15 0 ∗ pos c 16 0 ∗ pos c 17 0)
/-- The payments that are a device's to make: two signals; the staged copies of its own rows; and for each transfer one
    where it is sent from and one where it arrives. -/
def paysOf (c : Dev nD) : sProp 𝕄 :=
  iprop(dutyTok ER (bar (lf c)) 0 true ∗ dutyTok ER (bar (rt c)) 0 false ∗ tok c 2 0 ∗ tok c 2 1 ∗ tok c 3 0 ∗ tok c 3 1 ∗ tok c 4 0 ∗ tok c 5 0 ∗ tok c 6 0 ∗ tok c 7 0 ∗ tok (rt c) 8 0 ∗ tok (lf c) 9 0 ∗ tok (rt c) 10 0 ∗ tok (lf c) 11 0 ∗ tok c 12 0 ∗ tok c 13 0 ∗ tok c 14 0 ∗ tok (rt c) 15 0 ∗ tok (lf c) 16 0 ∗ tok (dg c) 17 0)
/-- The credits of a device's cells that other devices pay. -/
def credsOf (c : Dev nD) : sProp 𝕄 :=
  iprop(cred (tallyAt (bar c) () 2) ∗ crd c 8 NB ∗ crd c 9 NB ∗ crd c 10 NH ∗ crd c 11 NH ∗ crd c 15 NS ∗ crd c 16 NS ∗ crd c 17 NS)
/-- The counters of a device's own DMA semaphores, all at zero. -/
def zerosOf (c : Dev nD) : sProp 𝕄 :=
  iprop(semVal (cell c 2) 0 ∗ semVal (cell c 3) 0 ∗ semVal (cell c 4) 0 ∗ semVal (cell c 5) 0 ∗ semVal (cell c 6) 0 ∗ semVal (cell c 7) 0 ∗ semVal (cell c 8) 0 ∗ semVal (cell c 9) 0 ∗ semVal (cell c 10) 0 ∗ semVal (cell c 11) 0 ∗ semVal (cell c 12) 0 ∗ semVal (cell c 13) 0 ∗ semVal (cell c 14) 0 ∗ semVal (cell c 15) 0 ∗ semVal (cell c 16) 0 ∗ semVal (cell c 17) 0)
/-- A device's scratch buffers at some contents. -/
def scratchOf (c : Dev nD) : sProp 𝕄 :=
  iprop((∃ f, buf c cc0_scratch0 fullShare f) ∗ (∃ f, buf c cc0_scratch1 fullShare f) ∗ (∃ f, buf c cc0_scratch2 fullShare f) ∗ (∃ f, buf c cc0_scratch3 fullShare f) ∗ (∃ f, buf c cc0_scratch4 fullShare f) ∗ (∃ f, buf c cc0_scratch5 fullShare f) ∗ (∃ f, buf c cc0_scratch6 fullShare f))

/-- What the kernel leaves on a device: its rows as they were, its counters at zero, its scratch buffers. -/
def leftOf (c : Dev nD) : sProp 𝕄 :=
  iprop(buf c main_arg0 fullShare (xAt m c) ∗ semVal (bar c) 0 ∗ zerosOf c ∗ scratchOf c)

set_option maxHeartbeats 1600000 in
/-- The kernel on device `c`, part by part. -/
theorem sound_kernel (c : Dev nD) (fo : Buf (Elt F) ((c : Thread nD τ).loc cc0_stg1_0)) (Q : PUnit → sProp 𝕄) :
    iprop(recs m K ∗ ow c 9 ∗ placesOf c ∗ paysOf c ∗ credsOf c ∗ scratchOf c
        ∗ buf c main_arg0 fullShare (xAt m c) ∗ buf c cc0_stg0_0 fullShare (wstg m c) ∗ buf c cc0_stg1_0 fullShare fo
        ∗ ((ow c 0 ∗ leftOf m c ∗ buf c cc0_stg0_0 fullShare (wstg m c) ∗ buf c cc0_stg1_0 fullShare (outAt m c)) -∗ Q ⟨⟩))
      ⊢ wp frame (wpE (defs₀ (F := F)) 𝒱₀ (c : Thread nD τ) none) Set.univ
          (cc0_body (F := F) xM (Memref.isWhole_whole _) wM (Memref.isWhole_whole _) oM (Memref.isWhole_whole _) bM (Memref.isWhole_whole _) wbM (Memref.isWhole_whole _) gM (Memref.isWhole_whole _) lM (Memref.isWhole_whole _) rM (Memref.isWhole_whole _) dM (Memref.isWhole_whole _) sM (Memref.isWhole_whole _) cc0_scratch7 cc0_scratch8 cc0_scratch9 cc0_scratch10 cc0_scratch11) Q := by
  simp only [cc0_body_eq_skeleton]; unfold cc0_body_skel
  unfold placesOf paysOf credsOf scratchOf
  iintro ⟨#Hr, Ho, ⟨pB, p2, p3, p4, p5, p6, p7, p8, p9, p10, p11, p12, p13, p14, p15, p16, p17⟩, ⟨TL, TR, t20, t21, t30, t31, t4, t5, t6, t7, t8, t9, t10, t11, t12, t13, t14, t15, t16, t17⟩, ⟨cB, c8, c9, c10, c11, c15, c16, c17⟩,
    ⟨⟨%f0, S0⟩, ⟨%f1, S1⟩, ⟨%f2, S2⟩, ⟨%f3, S3⟩, ⟨%f4, S4⟩, ⟨%f5, S5⟩, ⟨%f6, S6⟩⟩, X, W, O, Hk⟩
  rw [wp_bind]
  iapply (part1 m K c f2 f3 f4 f5 f6 _)
  isplitr; · iexact Hr
  isplitl [Ho]; · iexact Ho
  isplitl [TL]; · iexact TL
  isplitl [TR]; · iexact TR
  isplitl [cB]; · iexact cB
  isplitl [pB]; · iexact pB
  isplitl [t20]; · iexact t20
  isplitl [t30]; · iexact t30
  isplitl [X]; · iexact X
  isplitl [S2]; · iexact S2
  isplitl [S3]; · iexact S3
  isplitl [S4]; · iexact S4
  isplitl [S5]; · iexact S5
  isplitl [S6]; · iexact S6
  iintro %v2 %v5 %v7 %v9 ⟨Ho, zB, PF, PT, M0, c2, c3, XL, XR, GR⟩
  unfold barPayF barPayT
  icases PF with ⟨HR, HD1, HS2, HS3⟩
  icases PT with ⟨HL, HD0, HS1⟩
  rw [wp_bind]
  iapply (part2 m K c f0 _)
  isplitr; · iexact Hr
  isplitl [Ho]; · iexact Ho
  isplitl [c2]; · iexact c2
  isplitl [c3]; · iexact c3
  isplitl [p2]; · iexact p2
  isplitl [p3]; · iexact p3
  isplitl [t21]; · iexact t21
  isplitl [XL]; · iexact XL
  isplitl [XR]; · iexact XR
  isplitl [S0]; · iexact S0
  iintro ⟨Ho, c2, p2, p3, #R3, XL, X, G1, S0⟩
  rw [wp_bind]
  iapply (part3 m K c f0 f2 _)
  isplitr; · iexact Hr
  isplitl [Ho]; · iexact Ho
  isplitl [c2]; · iexact c2
  isplitl [p2]; · iexact p2
  isplitl [p3]; · iexact p3
  isplitr; · iexact R3
  isplitl [t31]; · iexact t31
  isplitl [XL]; · iexact XL
  isplitl [X]; · iexact X
  isplitl [G1]; · iexact G1
  isplitl [GR]; · iexact GR
  isplitl [S0]; · iexact S0
  iintro ⟨Ho, z2, z3, X, S2, S0⟩
  rw [wp_bind]
  iapply (part4 m K c f1 fo v2 v5 v7 _)
  isplitr; · iexact Hr
  isplitl [Ho]; · iexact Ho
  isplitl [t4]; · iexact t4
  isplitl [t5]; · iexact t5
  isplitl [t8]; · iexact t8
  isplitl [t9]; · iexact t9
  isplitl [HL]; · iexact HL
  isplitl [HS3]; · iexact HS3
  isplitl [HR]; · iexact HR
  isplitl [S0]; · iexact S0
  isplitl [W]; · iexact W
  isplitl [S1]; · iexact S1
  isplitl [O]; · iexact O
  iintro ⟨Ho, c4, c5, S0, W, S1, O⟩
  rw [wp_bind]
  iapply (part5 m K c (o1 m c fo) v5 v7 _ _)
  isplitr; · iexact Hr
  isplitl [Ho]; · iexact Ho
  isplitl [c8]; · iexact c8
  isplitl [p8]; · iexact p8
  isplitl [t6]; · iexact t6
  isplitl [t10]; · iexact t10
  isplitl [HD0]; · iexact HD0
  isplitl [S1]; · iexact S1
  isplitl [O]; · iexact O
  iintro ⟨Ho, z8, HS3, c6, LR, S3, S1, O⟩
  rw [wp_bind]
  iapply (part6 m K c (o2 m c fo) v5 v7 _ _)
  isplitr; · iexact Hr
  isplitl [Ho]; · iexact Ho
  isplitl [c9]; · iexact c9
  isplitl [p9]; · iexact p9
  isplitl [c10]; · iexact c10
  isplitl [p10]; · iexact p10
  isplitl [t7]; · iexact t7
  isplitl [t11]; · iexact t11
  isplitl [HD1]; · iexact HD1
  isplitl [S1]; · iexact S1
  isplitl [O]; · iexact O
  iintro ⟨Ho, z9, z10, c7, RR, S4, D0, S1, O⟩
  rw [wp_bind]
  iapply (part7 m K c (o3 m c fo) v5 v9 _ _)
  isplitr; · iexact Hr
  isplitl [Ho]; · iexact Ho
  isplitl [c11]; · iexact c11
  isplitl [p11]; · iexact p11
  isplitl [c4]; · iexact c4
  isplitl [p4]; · iexact p4
  isplitl [c5]; · iexact c5
  isplitl [p5]; · iexact p5
  isplitl [D0]; · iexact D0
  isplitl [S0]; · iexact S0
  isplitl [S1]; · iexact S1
  isplitl [O]; · iexact O
  iintro ⟨Ho, z11, z4, z5, S5, S0, S1, O⟩
  ihave O := (Entails.of_eq (congrArg (fun f => (buf c cc0_stg1_0 fullShare f : sProp 𝕄)) (o4_eq m c fo))) $$ O
  ihave O := (Entails.of_eq (show (fun f => (buf c cc0_stg1_0 fullShare f : sProp 𝕄)) (stack (yAt m c)) = buf c cc0_stg1_0 fullShare (stack (yAt m c)) from rfl)) $$ O
  rw [wp_bind]
  iapply (part8 m K c f6 v5 v7 _)
  isplitr; · iexact Hr
  isplitl [Ho]; · iexact Ho
  isplitl [c6]; · iexact c6
  isplitl [p6]; · iexact p6
  isplitl [c7]; · iexact c7
  isplitl [p7]; · iexact p7
  isplitl [LR]; · iexact LR
  isplitl [S3]; · iexact S3
  isplitl [RR]; · iexact RR
  isplitl [S4]; · iexact S4
  isplitl [t12]; · iexact t12
  isplitl [t15]; · iexact t15
  isplitl [M0]; · iexact M0
  isplitl [HS1]; · iexact HS1
  iintro ⟨Ho, z6, z7, S3, S4, c12, MB, MC⟩
  rw [wp_bind]
  iapply (part9 m K c v5 v7 v9 _)
  isplitr; · iexact Hr
  isplitl [Ho]; · iexact Ho
  isplitl [t13]; · iexact t13
  isplitl [t16]; · iexact t16
  isplitl [t14]; · iexact t14
  isplitl [t17]; · iexact t17
  isplitl [MB]; · iexact MB
  isplitl [MC]; · iexact MC
  isplitl [HS2]; · iexact HS2
  isplitl [HS3]; · iexact HS3
  isplitl [c15]; · iexact c15
  isplitl [p15]; · iexact p15
  iintro ⟨Ho, c13, c14, z15, M1⟩
  rw [wp_bind]
  iapply (part10 m K c v9 _)
  isplitr; · iexact Hr
  isplitl [Ho]; · iexact Ho
  isplitl [c16]; · iexact c16
  isplitl [p16]; · iexact p16
  isplitl [c17]; · iexact c17
  isplitl [p17]; · iexact p17
  isplitl [c12]; · iexact c12
  isplitl [p12]; · iexact p12
  isplitl [c13]; · iexact c13
  isplitl [p13]; · iexact p13
  iintro ⟨Ho, z16, z17, z12, z13, M2, M3, MA, MB⟩
  rw [wp_bind]
  iapply (part11 m K c _)
  isplitr; · iexact Hr
  isplitl [Ho]; · iexact Ho
  isplitl [c14]; · iexact c14
  isplitl [p14]; · iexact p14
  isplitl [MA]; · iexact MA
  isplitl [MB]; · iexact MB
  isplitl [M1]; · iexact M1
  isplitl [M2]; · iexact M2
  isplitl [M3]; · iexact M3
  isplitl [O]; · iexact O
  iintro ⟨Ho, z14, S6, O⟩
  simp only [Prog.lift, Prog.bind_op, Prog.bind_ret, Prog.pure_eq_ret]
  iapply (wp_load 𝒱₀ (c : Thread nD τ) none Set.univ (m := oM) (Finset.subset_univ _)) $$ O; iintro O
  iapply (wp_store 𝒱₀ (c : Thread nD τ) none Set.univ (m := oM) (r := (oR ![1024, 0] inb_S4096x512_S1024x512_1024_0)) (Mk := Finset.univ) (Finset.subset_univ _)) $$ O; iintro O
  rw [show k0_pay1 (k0_pay19 (scAt m c)) (k0_pay22 (scAt m c) (yAt m c 1)) = outCh m c 1 from rfl]
  iapply (wp_load 𝒱₀ (c : Thread nD τ) none Set.univ (m := oM) (Finset.subset_univ _)) $$ O; iintro O
  rw [show (oM : Memref sig .tc .vmem S4096x512 .f32).view.readAt (Elt F) (Rect.unit (s := S4096x512) ![2048, 0] S1024x512.size inb_S4096x512_S1024x512_2048_0).toLoadRect (put ![1024, 0] inb_S4096x512_S1024x512_1024_0 (r1 m c) (outCh m c 1)) = yAt m c 2 from read_ch2 m c]
  iapply (wp_load 𝒱₀ (c : Thread nD τ) none Set.univ (m := oM) (Finset.subset_univ _)) $$ O; iintro O
  iapply (wp_store 𝒱₀ (c : Thread nD τ) none Set.univ (m := oM) (r := (oR ![2048, 0] inb_S4096x512_S1024x512_2048_0)) (Mk := Finset.univ) (Finset.subset_univ _)) $$ O; iintro O
  rw [show k0_pay2 (k0_pay19 (scAt m c)) (k0_pay20 (scAt m c)) (yAt m c 2) = outCh m c 2 from rfl]
  iapply (wp_load 𝒱₀ (c : Thread nD τ) none Set.univ (m := oM) (Finset.subset_univ _)) $$ O; iintro O
  rw [show (oM : Memref sig .tc .vmem S4096x512 .f32).view.readAt (Elt F) (Rect.unit (s := S4096x512) ![3072, 0] S1024x512.size inb_S4096x512_S1024x512_3072_0).toLoadRect (put ![2048, 0] inb_S4096x512_S1024x512_2048_0 (r2 m c) (outCh m c 2)) = yAt m c 3 from read_ch3 m c]
  iapply (wp_load 𝒱₀ (c : Thread nD τ) none Set.univ (m := oM) (Finset.subset_univ _)) $$ O; iintro O
  iapply (wp_store 𝒱₀ (c : Thread nD τ) none Set.univ (m := oM) (r := (oR ![3072, 0] inb_S4096x512_S1024x512_3072_0)) (Mk := Finset.univ) (Finset.subset_univ _)) $$ O; iintro O
  rw [show k0_pay3 (k0_pay19 (scAt m c)) (k0_pay20 (scAt m c)) (yAt m c 3) = outCh m c 3 from rfl]
  ihave O := (Entails.of_eq (congrArg (fun f => (buf c cc0_stg1_0 fullShare f : sProp 𝕄)) (r4_eq m c))) $$ O
  rw [wp_ret]; imodintro
  iapply Hk
  unfold leftOf zerosOf scratchOf
  isplitl [Ho]; · iexact Ho
  isplitr [W O]
  · isplitl [X]; · iexact X
    isplitl [zB]; · iexact zB
    isplitl [z2 z3 z4 z5 z6 z7 z8 z9 z10 z11 z12 z13 z14 z15 z16 z17]
    · isplitl [z2]; · iexact z2
      isplitl [z3]; · iexact z3
      isplitl [z4]; · iexact z4
      isplitl [z5]; · iexact z5
      isplitl [z6]; · iexact z6
      isplitl [z7]; · iexact z7
      isplitl [z8]; · iexact z8
      isplitl [z9]; · iexact z9
      isplitl [z10]; · iexact z10
      isplitl [z11]; · iexact z11
      isplitl [z12]; · iexact z12
      isplitl [z13]; · iexact z13
      isplitl [z14]; · iexact z14
      isplitl [z15]; · iexact z15
      isplitl [z16]; · iexact z16
      iexact z17
    isplitl [S0]; · iexists _; iexact S0
    isplitl [S1]; · iexists _; iexact S1
    isplitl [S2]; · iexact S2
    isplitl [S3]; · iexists _; iexact S3
    isplitl [S4]; · iexists _; iexact S4
    isplitl [S5]; · iexists _; iexact S5
    iexists _; iexact S6
  isplitl [W]; · iexact W
  iexact O

end Cert.KernelProof

end
-- ==== Proof.Run.lean ====
/-
The launch: every device's kernel from the memory the program starts on, and what a run of the program ends with.
-/
module

public import proofs.«01_k».proof.Proof.Body4
public import Idealize.ShloMosaic.Lib.Pipeline.CollectiveSegs

@[expose] public section

noncomputable section

namespace Cert.KernelProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What a device starts its kernel with. -/
def start (c : Dev nD) : sProp 𝕄 :=
  iprop((∃ K, recs m K) ∗ placesOf c ∗ paysOf c ∗ credsOf c ∗ buf c main_arg0 fullShare (xAt m c))

/-- The pipeline's data on device `c`: its columns staged in, its columns of the result staged out; the debts before the
    kernel, none after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => wstg m c
    | ⟨1, _⟩ => outAt m c
  Φ t := match t with
    | ⟨0, _⟩ => iprop(start m c ∗ scratchOf c)
    | ⟨_ + 1, _⟩ => leftOf m c
  q _ := fullShare
  owed t := match t with
    | ⟨0, _⟩ => Od c 9
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ buf c b fullShare f) := by
  unfold owns; simp only [Memref.view_whole, View.read_whole, View.set_whole]

/-- A whole buffer at contents equal to `X`. -/
abbrev stg (c : Dev nD) (b : Ref sig .tc) (X : b.ty.Contents (Elt F)) : sProp 𝕄 :=
  iprop(∃ f : Buf (Elt F) ((c : Thread nD τ).loc b), ⌜f = X⌝ ∗ buf c b fullShare f)

set_option maxRecDepth 4000 in
/-- Before the kernel, -/
def bodyPre (c : Dev nD) : sProp 𝕄 :=
  iprop((start m c ∗ scratchOf c) ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- and after it. -/
def bodyPost (c : Dev nD) : sProp 𝕄 :=
  iprop(leftOf m c ∗ (dats m ρ 0 c).owesAt () t0_0.succ ∗ stg c cc0_stg0_0 (wstg m c) ∗ stg c cc0_stg1_0 (outAt m c))

set_option maxRecDepth 4000 in
/-- The library's obligation on the body: `sound_kernel` between the pipeline's statements. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ
    (cc0_body (F := F) xM (Memref.isWhole_whole _) wM (Memref.isWhole_whole _) oM (Memref.isWhole_whole _) bM (Memref.isWhole_whole _) wbM (Memref.isWhole_whole _) gM (Memref.isWhole_whole _) lM (Memref.isWhole_whole _) rM (Memref.isWhole_whole _) dM (Memref.isWhole_whole _) sM (Memref.isWhole_whole _) cc0_scratch7 cc0_scratch8 cc0_scratch9 cc0_scratch10 cc0_scratch11) (fun _ => bodyPost m ρ c)
  unfold bodyPre start
  iintro ⟨⟨⟨⟨%K, #Hr⟩, Hpl, Hpay, Hcr, Hx⟩, Hs⟩, Ho, ⟨%d0, %g0, %hg0, Hw⟩, ⟨%d1, %g1, %hg1, Hout⟩⟩
  have hx : g0 = wstg m c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = Od c 9 from rfl]
  iapply (sound_kernel m K c g1 fun _ => bodyPost m ρ c)
  isplitr; · iexact Hr
  isplitl [HO]; · unfold ow; iexists W; iexact HO
  isplitl [Hpl]; · iexact Hpl
  isplitl [Hpay]; · iexact Hpay
  isplitl [Hcr]; · iexact Hcr
  isplitl [Hs]; · iexact Hs
  isplitl [Hx]; · iexact Hx
  isplitl [Hw]; · iexact Hw
  isplitl [Hout]; · iexact Hout
  unfold ow
  iintro ⟨⟨%W', HO⟩, Hl, Hw, Hout⟩
  unfold bodyPost Dat.owesAt Pipeline.owesWithin
  rw [show (dats m ρ 0 c).owed t0_0.succ = 0 from rfl]
  isplitl [Hl]; · iexact Hl
  isplitl [HO]
  · iexists W'
    isplitr; · ipureintro; exact fun _ _ => Or.inl trivial
    iexact HO
  isplitl [Hw]
  · iexists _; isplitr; · (ipureintro; rfl)
    iexact Hw
  iexists _; isplitr; · (ipureintro; rfl)
  iexact Hout

/-! ## The cells and the payments minted -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 17 → GSem nD τ sig) := by
  rintro ⟨c, k⟩ ⟨c', k'⟩ h
  have h1 : c = c' := congrArg (fun g : GSem nD τ sig => g.1.1) h
  have h2 : kOf (csem k) = kOf (csem k') := congrArg (fun g : GSem nD τ sig => kOf g.2) h
  have key : ∀ k k' : Fin 17, kOf (csem k) = kOf (csem k') → k = k' := by decide
  rw [h1, key k k' h2]
/-- All the cells. -/
def ringCells : Finset (GSem nD τ sig) := Finset.univ.map ⟨kcell, kcell_injective⟩

/-- The payments into a device's own cells: two into its barrier, two rounds of one into each cell of a staged copy, one
    into every other. -/
def paySem : Fin 20 → SemLoc sig × ℕ × Bool
  | 0 => (.reg barS, 0, true) | 1 => (.reg barS, 0, false) | 2 => (.dma 2, 0, false) | 3 => (.dma 2, 1, false) | 4 => (.dma 3, 0, false) | 5 => (.dma 3, 1, false) | 6 => (.dma 4, 0, false) | 7 => (.dma 5, 0, false) | 8 => (.dma 6, 0, false) | 9 => (.dma 7, 0, false) | 10 => (.dma 8, 0, false) | 11 => (.dma 9, 0, false) | 12 => (.dma 10, 0, false) | 13 => (.dma 11, 0, false) | 14 => (.dma 12, 0, false) | 15 => (.dma 13, 0, false) | 16 => (.dma 14, 0, false) | 17 => (.dma 15, 0, false) | 18 => (.dma 16, 0, false) | _ => (.dma 17, 0, false)
abbrev tokOf (cj : Dev nD × Fin 20) : GSem nD τ sig × ℕ × Bool := (((cj.1 : Thread nD τ), (paySem cj.2).1), (paySem cj.2).2)
theorem tokOf_injective : Function.Injective (tokOf : Dev nD × Fin 20 → GSem nD τ sig × ℕ × Bool) := by
  rintro ⟨c, j⟩ ⟨c', j'⟩ h
  have h1 : c = c' := congrArg (fun x : GSem nD τ sig × ℕ × Bool => x.1.1.1) h
  have h2 : (kOf (paySem j).1, (paySem j).2) = (kOf (paySem j').1, (paySem j').2) :=
    congrArg (fun x : GSem nD τ sig × ℕ × Bool => (kOf x.1.2, x.2)) h
  have key : ∀ j j' : Fin 20, (kOf (paySem j).1, (paySem j).2) = (kOf (paySem j').1, (paySem j').2) → j = j' := by decide
  rw [h1, key j j' h2]
/-- All the payments. -/
def ringToks : Finset (GSem nD τ sig × ℕ × Bool) := Finset.univ.map ⟨tokOf, tokOf_injective⟩

/-- The ghost state the launch starts from. -/
def u₀ : UU :=
  (initOf (Pipeline.cells cfgs cellOf_inj) (Pipeline.launchToks cfgs cellOf_inj), initOf ringCells ringToks)

/-- The payments into device `c`'s own cells. -/
def toks (c : Dev nD) : sProp 𝕄 :=
  iprop(dutyTok ER (bar c) 0 true ∗ dutyTok ER (bar c) 0 false ∗ tok c 2 0 ∗ tok c 2 1 ∗ tok c 3 0 ∗ tok c 3 1 ∗ tok c 4 0 ∗ tok c 5 0 ∗ tok c 6 0 ∗ tok c 7 0 ∗ tok c 8 0 ∗ tok c 9 0 ∗ tok c 10 0 ∗ tok c 11 0 ∗ tok c 12 0 ∗ tok c 13 0 ∗ tok c 14 0 ∗ tok c 15 0 ∗ tok c 16 0 ∗ tok c 17 0)

/-- What the launch element deals device `c`. -/
def G (c : Dev nD) : sProp 𝕄 :=
  iprop((bigSep Finset.univ fun k : Fin 17 => roundState ER (Rd m) (kcell (c, k)) 0)
    ∗ (bigSep Finset.univ fun k : Fin 17 => iprop(atPos ER (kcell (c, k)) 0 ∅ 0 ∗ reached ER (kcell (c, k)) 0)) ∗ toks c)

/-- The invariants of all cells, and that each is at its first round. -/
def records (K : Dev nD × Fin 17 → ℕ) : sProp 𝕄 :=
  bigSep Finset.univ fun ck : Dev nD × Fin 17 => iprop(cellInv ER (Rd m) (K ck) (kcell ck) ∗ reached ER (kcell ck) 0)

instance records_persistent (K : Dev nD × Fin 17 → ℕ) : BI.Persistent (records m K) := by unfold records; infer_instance

/-- What the global step makes of it. -/
def G' (c : Dev nD) : sProp 𝕄 := iprop((∃ K, records m K) ∗ placesOf c ∗ paysOf c)

omit [FloatOps F] in
theorem bigSep_fin17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ
omit [FloatOps F] in
theorem bigSep_fin20 (Φ : Fin 20 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19) :=
  bigSep_univ_eq_bigSepL [0, 1, 2, 3, 4, 5, 6, 7, 8, 9, 10, 11, 12, 13, 14, 15, 16, 17, 18, 19] (by decide) (by decide) Φ

/-- The launch element gives every device its cells' states, places and payments. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin20]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own sixteen semaphores, -/
theorem ownSems0_eq (c : Dev nD) : (Pipeline.ownSems0 (Ix := Unit) (Name := ℕ) (U := UU) (Lvl := ℕ) (Val := Elt F) (τ := τ) osem c : sProp 𝕄) = zerosOf c := by
  rw [Pipeline.ownSems0_eq_of_list c osem [0, 1, 2, 3, 4, 5, 6, 7, 8, 9, 10, 11, 12, 13, 14, 15] (by decide) (by decide)]; rfl
omit [FloatOps F] in
/-- and the barrier semaphore, the launch's one unscoped semaphore, -/
theorem unscopedSems0_eq (c : Dev nD) : (unscopedSems0 c : sProp 𝕄) = semVal (bar c) 0 := by
  unfold unscopedSems0; rw [bigSep_eq_bigSepL_of_eq [SemLoc.reg barS] (by decide) (by decide)]; rfl

omit [FloatOps F] in
/-- are the seventeen cells' counters. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_eq, unscopedSems0_eq, bigSep_fin17]
  show _ ⊢ iprop(semVal (bar c) 0 ∗ zerosOf c)
  iintro ⟨HS, HB⟩
  isplitl [HB] <;> iassumption

/-- One device's cells become invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- A family over the devices, dealt to left, right and opposite neighbours. -/
theorem by_rt (Φ : Dev nD → sProp 𝕄) : bigSep Finset.univ Φ = bigSep Finset.univ fun c => Φ (rt c) := bigSep_univ_equiv ring Φ
omit [FloatOps F] in
theorem by_lf (Φ : Dev nD → sProp 𝕄) : bigSep Finset.univ Φ = bigSep Finset.univ fun c => Φ (lf c) := bigSep_univ_equiv ringL Φ
omit [FloatOps F] in
theorem by_dg (Φ : Dev nD → sProp 𝕄) : bigSep Finset.univ Φ = bigSep Finset.univ fun c => Φ (dg c) := bigSep_univ_equiv ringD Φ

omit [FloatOps F] in
/-- The payments dealt to the devices that make them. -/
theorem toks_around : (bigSep Finset.univ fun c : Dev nD => (toks c : sProp 𝕄)) ⊢ bigSep Finset.univ fun c : Dev nD => paysOf c := by
  unfold toks paysOf
  simp only [bigSep_sep']
  rw [by_lf fun c : Dev nD => (dutyTok ER (bar c) 0 true : sProp 𝕄), by_rt fun c : Dev nD => (dutyTok ER (bar c) 0 false : sProp 𝕄),
    by_rt fun c : Dev nD => (tok c 8 0 : sProp 𝕄), by_lf fun c : Dev nD => (tok c 9 0 : sProp 𝕄), by_rt fun c : Dev nD => (tok c 10 0 : sProp 𝕄),
    by_lf fun c : Dev nD => (tok c 11 0 : sProp 𝕄), by_rt fun c : Dev nD => (tok c 15 0 : sProp 𝕄), by_lf fun c : Dev nD => (tok c 16 0 : sProp 𝕄),
    by_dg fun c : Dev nD => (tok c 17 0 : sProp 𝕄)]

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' cells together: the invariants known to each. -/
theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 17 => iprop(∃ κ : ℕ, cellInv ER (Rd m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (Rd m) κ (kcell ck) : sProp 𝕄))) $$ HI
  icases HK with ⟨%K, #HI⟩
  ihave Htk := (toks_around (F := F)) $$ Htok
  iapply (bigSep_with_persistent (R := records m K) (Φ := fun c => iprop(placesOf c ∗ paysOf c)) (Ψ := G' m) fun c _ => by
    unfold G'
    iintro ⟨#HR, HL⟩
    isplitr; · iexists K; iexact HR
    iexact HL)
  isplitr
  · unfold records; rw [bigSep_sep']
    isplitl; · iexact HI
    iexact HR
  · rw [bigSep_sep']
    isplitl [Hat]
    · have hpl : (bigSep Finset.univ fun c : Dev nD => bigSep Finset.univ fun k : Fin 17 => (atPos ER (kcell (c, k)) 0 ∅ 0 : sProp 𝕄))
          ⊢ bigSep Finset.univ fun c : Dev nD => (placesOf c : sProp 𝕄) :=
        bigSep_mono fun c _ => show (bigSep Finset.univ fun k : Fin 17 => (atPos ER (kcell (c, k)) 0 ∅ 0 : sProp 𝕄)) ⊢ placesOf c from
          Entails.of_eq (by rw [bigSep_fin17]; rfl)
      iapply hpl
      iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits at launch -/

/-- What a device owes, debt by debt. -/
theorem Od_apply (d : Dev nD) (g : GSem nD τ sig) (n : ℕ) : Od d n g () = ∑ j ∈ Finset.range n, if g = tgt d j then tam j else 0 := by
  induction n with
  | zero => rfl
  | succ n ih =>
    rw [Od, Pi.add_apply, Finsupp.add_apply, tallyAt_apply, ih, Finset.sum_range_succ]
    congr 1
    by_cases h : g = tgt d n
    · rw [if_pos ⟨h, rfl⟩, if_pos h]
    · rw [if_neg (fun h' => h h'.1), if_neg h]

/-- A debt to a cell is one to its semaphore and its device. -/
theorem tgt_iff (c d : Dev nD) (s : SemLoc sig) (j : ℕ) : ((c : Thread nD τ), s) = tgt d j ↔ c = tdev d j ∧ s = tsem j :=
  ⟨fun h => ⟨congrArg (fun g : GSem nD τ sig => g.1.1) h, congrArg Prod.snd h⟩, fun h => by rw [h.1, h.2]; rfl⟩

/-- A DMA cell paid by one device's one debt has that debt's credit. -/
theorem launch_dma (c : Dev nD) (s : SemLoc sig) (j₀ : ℕ) (e : Dev nD) (hj : j₀ ∈ Finset.range 9) (hs : s = tsem j₀)
    (hj' : ∀ j ∈ Finset.range 9, j ≠ j₀ → kOf s ≠ kOf (tsem j)) (he : ∀ d, c = tdev d j₀ ↔ d = e) :
    tallyOn ((c : Thread nD τ), s) (launchCredit (Pipeline.owing fun c => Od c 9) 0 ((c : Thread nD τ), s))
      = (tallyAt ((c : Thread nD τ), s) () (tam j₀) : CellTallies nD τ sig Unit) := by
  unfold tallyAt; refine congrArg _ (Finsupp.ext fun u => ?_); cases u
  rw [Pipeline.launchCredit_owing, Finsupp.single_eq_same]
  have h (d : Dev nD) : Od d 9 ((c : Thread nD τ), s) () = if d = e then tam j₀ else 0 := by
    rw [Od_apply, Finset.sum_eq_single j₀]
    · by_cases h : d = e
      · rw [if_pos ((tgt_iff c d s j₀).mpr ⟨(he d).mpr h, hs⟩), if_pos h]
      · rw [if_neg (fun h' => h ((he d).mp ((tgt_iff c d s j₀).mp h').1)), if_neg h]
    · intro j hj1 hj2
      rw [if_neg (fun h' => hj' j hj1 hj2 (congrArg kOf ((tgt_iff c d s j).mp h').2))]
    · intro h; exact absurd hj h
  rw [Finset.sum_congr rfl fun d _ => h d, Finset.sum_ite_eq' Finset.univ e fun _ => tam j₀, if_pos (Finset.mem_univ _)]

/-- The barrier has the credit of both neighbours' signals. -/
theorem launch_bar (c : Dev nD) :
    tallyOn (bar c) (launchCredit (Pipeline.owing fun c => Od c 9) 0 (bar c)) = (tallyAt (bar c) () 2 : CellTallies nD τ sig Unit) := by
  unfold tallyAt; refine congrArg _ (Finsupp.ext fun u => ?_); cases u
  rw [Pipeline.launchCredit_owing, Finsupp.single_eq_same]
  have h (d : Dev nD) : Od d 9 (bar c) () = (if d = lf c then 1 else 0) + (if d = rt c then 1 else 0) := by
    rw [Od_apply, Finset.sum_range_succ, Finset.sum_range_succ, Finset.sum_eq_zero, Nat.zero_add]
    · congr 1
      · by_cases h : d = lf c
        · rw [if_pos (show bar c = tgt d 7 from (tgt_iff c d (.reg barS) 7).mpr ⟨by rw [h]; exact (rt_lf c).symm, rfl⟩), if_pos h]; rfl
        · rw [if_neg (fun h' : bar c = tgt d 7 => h (by rw [((tgt_iff c d (.reg barS) 7).mp h').1]; exact (lf_rt d).symm)), if_neg h]
      · by_cases h : d = rt c
        · rw [if_pos (show bar c = tgt d 8 from (tgt_iff c d (.reg barS) 8).mpr ⟨by rw [h]; exact (lf_rt c).symm, rfl⟩), if_pos h]; rfl
        · rw [if_neg (fun h' : bar c = tgt d 8 => h (by rw [((tgt_iff c d (.reg barS) 8).mp h').1]; exact (rt_lf d).symm)), if_neg h]
    · have key : ∀ j ∈ Finset.range 7, 0 ≠ kOf (tsem j) := by decide
      exact fun j hj => if_neg fun h' : bar c = tgt d j => key j hj (show kOf (.reg barS) = kOf (tsem j) from congrArg kOf ((tgt_iff c d (.reg barS) j).mp h').2)
  rw [Finset.sum_congr rfl fun d _ => h d, Finset.sum_add_distrib, Finset.sum_ite_eq' Finset.univ (lf c) fun _ => 1,
    Finset.sum_ite_eq' Finset.univ (rt c) fun _ => 1, if_pos (Finset.mem_univ _), if_pos (Finset.mem_univ _)]

theorem of_rt (c d : Dev nD) : c = rt d ↔ d = lf c := ⟨fun h => by rw [h, lf_rt], fun h => by rw [h, rt_lf]⟩
theorem of_lf (c d : Dev nD) : c = lf d ↔ d = rt c := ⟨fun h => by rw [h, rt_lf], fun h => by rw [h, lf_rt]⟩
theorem of_dg (c d : Dev nD) : c = dg d ↔ d = dg c := ⟨fun h => by rw [h, dg_dg], fun h => by rw [h, dg_dg]⟩

omit [FloatOps F] in
/-- A device's launch credits. -/
theorem creds (c : Dev nD) : (Pipeline.launchCred (fun c => Od c 9) c : sProp 𝕄) ⊢ credsOf c := by
  unfold Pipeline.launchCred credsOf
  have h : (bigSep Finset.univ fun sm : SemLoc sig => (cred (tallyOn ((c : Thread nD τ), sm) (launchCredit (Pipeline.owing fun c => Od c 9) 0 ((c : Thread nD τ), sm))) : sProp 𝕄))
      ⊢ bigSep ([SemLoc.reg barS, .dma 8, .dma 9, .dma 10, .dma 11, .dma 15, .dma 16, .dma 17] : List (SemLoc sig)).toFinset
        fun sm : SemLoc sig => (cred (tallyOn ((c : Thread nD τ), sm) (launchCredit (Pipeline.owing fun c => Od c 9) 0 ((c : Thread nD τ), sm))) : sProp 𝕄) :=
    bigSep_subset (Finset.subset_univ _)
  refine h.trans (Entails.of_eq ?_)
  rw [bigSep_eq_bigSepL _ (by decide)]
  show iprop(cred (tallyOn (bar c) _) ∗ cred (tallyOn (cell c 8) _) ∗ cred (tallyOn (cell c 9) _) ∗ cred (tallyOn (cell c 10) _) ∗ cred (tallyOn (cell c 11) _) ∗ cred (tallyOn (cell c 15) _) ∗ cred (tallyOn (cell c 16) _) ∗ cred (tallyOn (cell c 17) _)) = _
  rw [launch_bar]
  rw [launch_dma c (.dma 8) 6 (lf c) (by decide) rfl (by decide) (of_rt c), launch_dma c (.dma 9) 5 (rt c) (by decide) rfl (by decide) (of_lf c), launch_dma c (.dma 10) 4 (lf c) (by decide) rfl (by decide) (of_rt c), launch_dma c (.dma 11) 3 (rt c) (by decide) rfl (by decide) (of_lf c), launch_dma c (.dma 15) 2 (lf c) (by decide) rfl (by decide) (of_rt c), launch_dma c (.dma 16) 1 (rt c) (by decide) rfl (by decide) (of_lf c), launch_dma c (.dma 17) 0 (dg c) (by decide) rfl (by decide) (of_dg c)]
  rfl

/-! ## The run's side conditions -/

/-- The device's rows, of which no window is, among what the launch hands over. -/
theorem rest_eq (c : Dev nD) (V : (b : Ref sig .tc) → Buf (Elt F) ((c : Thread nD τ).loc b)) :
    (Pipeline.unscopedRestP Pipeline.Prefetch.none cfg0.spec c V : sProp 𝕄) = buf c main_arg0 fullShare (V main_arg0) := by
  rw [Pipeline.unscopedRestP_none]; exact unscopedRest0_eq c V

theorem start_intro (c : Dev nD) :
    iprop(Pipeline.unscopedRestP Pipeline.Prefetch.none cfg0.spec c (fun b => m ((c : Thread nD τ).loc b)) ∗ levAts L lv
        ∗ Pipeline.launchCred (fun c => Od c 9) c ∗ prngReg c (ρ c) ∗ G' m c)
      ⊢ |={Set.univ}=> iprop(start m c ∗ emp) := by
  rw [rest_eq]
  unfold G' records
  iintro ⟨Hx, Hlev, Hcr, -, ⟨%K, HR⟩, Hpl, Hpay⟩
  ihave Hc := (creds (F := F) c) $$ Hcr
  imodintro
  unfold start recs
  isplitl
  · isplitl [HR Hlev]
    · iexists K
      isplitl [HR] <;> iassumption
    isplitl [Hpl]; · iexact Hpl
    isplitl [Hpay]; · iexact Hpay
    isplitl [Hc]; · iexact Hc
    iexact Hx
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratchOf c) from rfl, scopedRest0_eq]
  unfold scratchOf
  iintro ⟨Hs, -, Hr⟩
  isplitl [Hs] <;> iassumption

/-- What a device gives back when the kernel is done: its rows and its barrier. -/
def back (c : Dev nD) : sProp 𝕄 := iprop(buf c main_arg0 fullShare (xAt m c) ∗ unscopedSems0 c)

theorem phi1_exit (c : Dev nD) :
    (dats m ρ 0 c).Φ (Fin.last cfg0.N) ⊢ iprop(back m c ∗ Pipeline.ownSems0 osem c ∗ Pipeline.scopedRest cfg0.spec c) := by
  rw [show (dats m ρ 0 c).Φ (Fin.last cfg0.N) = leftOf m c from rfl, scopedRest0_eq, ownSems0_eq]
  unfold leftOf back scratchOf
  rw [unscopedSems0_eq]
  iintro ⟨Hx, HB, HZ, HS⟩
  isplitl [Hx HB]
  · isplitl [Hx] <;> iassumption
  isplitl [HZ] <;> iassumption

/-- A wait for a staged window, of the lowest level, is allowed whatever the device owes. -/
theorem mayWait_stage (c : Dev nD) (q : DmaSem sig) (hq : lvK (kOf (.dma q)) = 0) (O) (hO : O = Od c 9 ∨ O = 0) :
    (levAts L lv : sProp 𝕄) ⊢ MayWait (c : Thread nD τ) (.dma q) () O := by
  rcases hO with rfl | rfl
  · have key : ∀ j < 9, 0 < lvK (kOf (tsem j)) := by decide
    exact mayWait_of c _ 9 fun j hj => hq ▸ key j hj
  · exact mayWait_of c _ 0 fun j hj => absurd hj (Nat.not_lt_zero j)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by rcases t with ⟨_ | _, ht⟩; exacts [Or.inl rfl, Or.inr rfl])

/-! ## The run -/

/-- The contents of a window's array at the end. -/
def finalA (c : Dev nD) (w : Fin cfg0.W) : Buf (Elt F) ((cfg0.win w).arr.view.loc (c : Thread nD τ)) := (dats m ρ 0 c).arrAt w cfg0.N

/-- At the end, on every device: the windows' arrays as computed, the rows as they were. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg0) = m ((c : Thread nD τ).loc main_arg0)

set_option maxRecDepth 8000 in
/-- On the mesh of four devices, for any float values, from any memory with zero counters: every weakly fair execution of
    the program ends, and in every final state each device's result is as computed, its arguments are as they were and
    every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => Od c 9) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := back m) (Z := fun _ => iprop(emp))
    (hX := start_intro m ρ) (hin := phi0_intro m ρ) (hout := phi1_exit m ρ)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      unfold back
      iintro ⟨⟨Hx, Hu⟩, -, HSI⟩
      icombine HSI Hx gives %hx
      imod (Pipeline.unscopedSems0_read (X := unscopedSems0 c) (c := c) fupd_intro s') $$ [Hu HSI] with ⟨%hz, HSI⟩
      · isplitl [Hu] <;> iassumption
      imodintro
      isplitr
      · ipureintro; exact ⟨Buf.eq_of_forall_mem_univ hx, hz⟩
      iexact HSI)
    (hQ := fun _ h hs => ⟨fun c => ⟨fun w => (h c).1 w, (h c).2.2.1⟩, sem_eq_zero hs fun c => (h c).2.2.2⟩)

/-- A device's columns are at the end what they were. -/
theorem finalA_w (c : Dev nD) : finalA m ρ c (0 : Fin 2) = m ((c : Thread nD τ).loc main_arg1) :=
  (dats (F := F) m ρ 0 c).arrAt_in (0 : Fin 2) rfl _

end Cert.KernelProof

end
-- ==== Proof.Final.lean ====
/-
The device's result as a whole array after the run, and the frames of the kernel and of its ideal instance.
-/
module

public import proofs.«01_k».proof.Proof.Run
public import proofs.«01_k».proof.Proof.Gen.Kernel
public import proofs.«01_k».proof.Defs

@[expose] public section

noncomputable section

namespace Cert.KernelProof

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (ρ : Dev nD → PrngReg)

/-- The columns' one block is the whole array, -/
theorem emb_w (j : S4096x512.Idx) : (win0_0.blk (0 : Fin 1)).view.emb j = j := by
  funext a; apply Fin.ext
  match a with
  | ⟨0, _⟩ => show 0 * 4096 + 1 * (j 0).val = (j 0).val; omega
  | ⟨1, _⟩ => show 0 * 512 + 1 * (j 1).val = (j 1).val; omega

/-- and so is the result's. -/
theorem emb_o (j : S4096x512.Idx) : (win0_1.blk (0 : Fin 1)).view.emb j = j := by
  funext a; apply Fin.ext
  match a with
  | ⟨0, _⟩ => show 0 * 4096 + 1 * (j 0).val = (j 0).val; omega
  | ⟨1, _⟩ => show 0 * 512 + 1 * (j 1).val = (j 1).val; omega

/-- So the columns staged in are the device's columns. -/
theorem wstg_eq (c : Dev nD) : wstg m c = m ((c : Thread nD τ).loc main_arg1) := by
  funext j
  show m ((c : Thread nD τ).loc main_arg1) ((win0_0.blk (0 : Fin 1)).view.emb j) = _
  rw [emb_w]

/-- The result's array at the end is what the kernel left in the staging buffer. -/
theorem finalA_o (c : Dev nD) : finalA m ρ c (1 : Fin 2) = outAt m c := by
  have h : (win0_1.blk (0 : Fin 1)).view.read (Elt F) (finalA m ρ c (1 : Fin 2)) = outAt m c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  funext j
  have hj := congrFun h j
  rw [← hj]
  show finalA m ρ c (1 : Fin 2) j = finalA m ρ c (1 : Fin 2) ((win0_1.blk (0 : Fin 1)).view.emb j)
  rw [emb_o]

/-- The run, read at the result and the arguments of every device. -/
theorem run_values : θ_run defs (onTc (τ := τ) (main (F := F))) ⟨m, fun _ => 0, ρ⟩ (fun r => (∀ c : Dev nD,
      r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨((h.1 c).1 (1 : Fin 2)).trans (finalA_o m ρ c), (h.1 c).2,
    ((h.1 c).1 (0 : Fin 2)).trans (finalA_w m ρ c)⟩, h.2⟩) (run_main m ρ)

/-- The ideal instance of the kernel ends, leaves its arguments as they were and every counter at zero. -/
theorem frame_ideal : Cert.quiescent_KernelIdeal := fun m ρ _ =>
  (θ_run Cert.KernelIdeal.defs _ _).mono (fun _ h => ⟨fun c => (h.1 c).2, h.2⟩) (run_values (F := Ideal) m ρ)

/-- The kernel's labels and its ideal instance's have the same bodies, -/
theorem same_defs₀ : Cert.Kernel.defs₀ (F := F) = Cert.KernelIdeal.defs₀ (F := F) := by
  funext p l a
  match p with
  | .tc =>
    match l, a with
    | ⟨0, _⟩, a => rfl
  | .scScalar _ => rfl
  | .scVector _ _ => rfl

/-- so the pipelines over them are the same. -/
theorem same_defs : Cert.Kernel.defs (F := F) = Cert.KernelIdeal.defs (F := F) :=
  congrArg (Idealize.ShloMosaic.Pipeline.defs Cert.KernelIdeal.pcfgs) same_defs₀

/-- The kernel, whose text is the same, does so on words. -/
theorem frame_kernel : Cert.quiescent_Kernel := fun m ρ _ => by
  have h := (θ_run (Cert.KernelIdeal.defs (F := Bits)) (onTc (τ := τ) (main (F := Bits))) ⟨m, fun _ => 0, ρ⟩).mono
    (fun _ h => (⟨fun c => (h.1 c).2, h.2⟩ : _ ∧ _)) (run_values (F := Bits) m ρ)
  rw [← same_defs] at h
  exact h

end Cert.KernelProof

end
-- ==== Proof.Quant.lean ====
/-
The quantiser over the extended reals: scaling by `448 / g`, clipping and scaling back by `g / 448` is the same as dividing
by `g / 448`, clipping and scaling back, whatever `g` is; and the largest value of an array as a supremum.
-/
module

public import Idealize.ShloMosaic.PureOps.Ideal.Laws
public import Idealize.ShloMosaic.Lib.Pipeline.Value

@[expose] public section

noncomputable section

namespace Cert.KernelProof

open Idealize.ShloMosaic

/-- The largest magnitude of the eight-bit format. -/
abbrev c448 : EReal := ((448 : ℝ) : EReal)

theorem ofBits_448 : Ideal.ofBits .f32 0x43E00000#32 = c448 := by
  simp [Ideal.ofBits, Ideal.ieee, -EReal.coe_mul]; norm_num
theorem ofBits_neg448 : Ideal.ofBits .f32 0xC3E00000#32 = -c448 := by
  rw [c448, ← EReal.coe_neg]
  simp [Ideal.ofBits, Ideal.ieee, -EReal.coe_mul, -EReal.coe_neg]; norm_num
theorem ofBits_bot : Ideal.ofBits .f32 0xFF800000#32 = (⊥ : EReal) := by
  simp [Ideal.ofBits, Ideal.ieee]

/-- Clipped to the format's range. -/
def clip (x : EReal) : EReal := min c448 (max (-c448) x)

theorem clip_zero : clip 0 = 0 := by
  unfold clip c448
  rw [← EReal.coe_neg, ← EReal.coe_zero]
  rw [max_eq_right (EReal.coe_le_coe_iff.mpr (by norm_num)), min_eq_right (EReal.coe_le_coe_iff.mpr (by norm_num))]

/-- A value quantised at the scale `g / 448`, and scaled back. -/
def quant (g y : EReal) : EReal := clip (Ideal.div y (Ideal.div g c448)) * Ideal.div g c448

theorem c448_ne : c448 ≠ 0 := by unfold c448; exact_mod_cast (by norm_num : (448 : ℝ) ≠ 0)

/-- Multiplying by the inverse scale gives the same. -/
theorem quant_eq (g y : EReal) : clip (y * Ideal.div c448 g) * Ideal.div g c448 = quant g y := by
  unfold quant
  have hd : Ideal.div g c448 = g * c448⁻¹ := by unfold Ideal.div; rw [if_neg c448_ne]
  by_cases h0 : g = 0
  · rw [hd, h0, zero_mul, mul_zero, mul_zero]
  have hk : Ideal.div c448 g = c448 * g⁻¹ := by unfold Ideal.div; rw [if_neg h0]
  have hki : c448⁻¹ = (((448 : ℝ)⁻¹ : ℝ) : EReal) := (EReal.coe_inv 448).symm
  have hpos : (0 : EReal) < c448⁻¹ := by rw [hki]; exact_mod_cast (by norm_num : (0 : ℝ) < 448⁻¹)
  rw [hk, hd, hki]
  have hp : (0 : ℝ) < 448⁻¹ := by norm_num
  induction g using EReal.rec with
  | bot =>
    rw [EReal.bot_mul_coe_of_pos hp, EReal.inv_bot, mul_zero, mul_zero, clip_zero]
    unfold Ideal.div
    rw [if_neg EReal.bot_ne_zero, EReal.inv_bot, mul_zero, clip_zero]
  | top =>
    rw [EReal.top_mul_coe_of_pos hp, EReal.inv_top, mul_zero, mul_zero, clip_zero]
    unfold Ideal.div
    rw [if_neg EReal.top_ne_zero, EReal.inv_top, mul_zero, clip_zero]
  | coe r =>
    have hr : r ≠ 0 := fun e => h0 (by rw [e]; rfl)
    have hn : ((r * 448⁻¹ : ℝ) : EReal) ≠ 0 := fun e => mul_ne_zero hr hp.ne' (EReal.coe_eq_zero.mp e)
    rw [← EReal.coe_mul]
    unfold Ideal.div
    rw [if_neg hn, ← EReal.coe_inv, ← EReal.coe_inv, c448, ← EReal.coe_mul]
    rw [show (448 : ℝ) * r⁻¹ = (r * 448⁻¹)⁻¹ from by field_simp]

/-- The maximum of an array over all its axes is its supremum. -/
theorem max_total {s t : Shape} {axes : List (Fin s.rank)} (src : FVec Ideal s .f32) (h : s.Reduces axes t) (ht : ∀ b, t.size b = 1)
    (hφ : FKind.Formats .f32) (hacc : (0xFF800000#32 : BitVec 32) = FKind.maximumf.neutral .f32 hφ) (j : t.Idx) :
    multiReduction .maximumf axes t src 0xFF800000#32 h hφ hacc j = ⨆ i : s.Idx, (src i : EReal) := by
  rw [multiReduction_maximumf_eq_fold, Finset.filter_true_of_mem fun i _ => funext fun b => Fin.ext (by
    have := (h.drop i b).isLt; have := (j b).isLt; have := ht b; omega)]
  rw [show (FloatOps.ofBits .f32 0xFF800000#32 : Ideal .f32) = (⊥ : EReal) from ofBits_bot]
  exact (Finset.sup_univ_eq_iSup (fun i => (src i : EReal)))

/-- A recast array has the same supremum. -/
theorem sup_shapeCast {s t : Shape} (x : s.Idx → EReal) (h : s.ShapeCasts t) : ⨆ i : t.Idx, shapeCast t x h i = ⨆ i : s.Idx, x i :=
  Equiv.iSup_comp (Shape.reshapeEquiv h)

/-- A maximum over a whole array as the programs take it: recast, reduced to one entry, and that entry read. -/
theorem top_eq {s s' t t' : Shape} {axes : List (Fin s'.rank)} (x : FVec Ideal s .f32) (h1 : s.ShapeCasts s') (h : s'.Reduces axes t)
    (ht : ∀ b, t.size b = 1) (hφ : FKind.Formats .f32) (hacc : (0xFF800000#32 : BitVec 32) = FKind.maximumf.neutral .f32 hφ)
    (h2 : t.ShapeCasts t') (pos : Fin t'.rank → Nat) (h3 : ∀ a, pos a < t'.size a) :
    extractAt pos (shapeCast t' (multiReduction .maximumf axes t (shapeCast s' x h1) 0xFF800000#32 h hφ hacc) h2) h3 = ⨆ i : s.Idx, (x i : EReal) := by
  show multiReduction .maximumf axes t (shapeCast s' x h1) 0xFF800000#32 h hφ hacc _ = _
  rw [max_total _ _ ht]
  exact sup_shapeCast x h1

/-- The scalar operations of the quantiser, read over the extended reals. -/
theorem sdiv_eq (a b : Ideal .f32) : Scalar.divf a b = Ideal.div a b := rfl
theorem smax_eq (a b : Ideal .f32) : Scalar.maximumf a b = max (a : EReal) b := rfl
theorem s448_eq : (Scalar.ofBits .f32 0x43E00000#32 : Ideal .f32) = c448 := ofBits_448
theorem sneg448_eq : (Scalar.ofBits .f32 0xC3E00000#32 : Ideal .f32) = -c448 := ofBits_neg448

/-- The kernel's quantiser of an array, scaling by `q` and back by `p`; -/
def scaled {s : Shape} (y : FVec Ideal s .f32) (q p : Ideal .f32) (h : FTy.bits .fp8e4m3 < FTy.bits .f32) : FVec Ideal s .f32 :=
  mulf (extf .f32 (truncf .fp8e4m3 (minimumf (broadcast s (Scalar.ofBits .f32 0x43E00000#32))
    (maximumf (broadcast s (Scalar.ofBits .f32 0xC3E00000#32)) (mulf y (broadcast s q)))) h) h) (broadcast s p)
/-- the reference's, dividing by `p`. -/
def divided {s : Shape} (y : FVec Ideal s .f32) (p : Ideal .f32) (h : FTy.bits .fp8e4m3 < FTy.bits .f32) : FVec Ideal s .f32 :=
  mulf (extf .f32 (truncf .fp8e4m3 (minimumf (broadcast s (Scalar.ofBits .f32 0x43E00000#32))
    (maximumf (broadcast s (Scalar.ofBits .f32 0xC3E00000#32)) (divf y (broadcast s p)))) h) h) (broadcast s p)

theorem scaled_apply {s : Shape} (y : FVec Ideal s .f32) (q p : Ideal .f32) (h : FTy.bits .fp8e4m3 < FTy.bits .f32) (i : s.Idx) :
    scaled y q p h i = clip ((y i : EReal) * q) * p := by
  unfold scaled
  rw [s448_eq, sneg448_eq]
  rfl
theorem divided_apply {s : Shape} (y : FVec Ideal s .f32) (p : Ideal .f32) (h : FTy.bits .fp8e4m3 < FTy.bits .f32) (i : s.Idx) :
    divided y p h i = clip (Ideal.div (y i) p) * p := by
  unfold divided
  rw [s448_eq, sneg448_eq]
  rfl

end Cert.KernelProof

end
-- ==== Proof.Value.lean ====
/-
The kernel's result on each device is that device's columns of the reference's result, over the extended reals.
-/
module

public import proofs.«01_k».proof.Proof.Final
public import proofs.«01_k».proof.Proof.Quant
public import proofs.«01_k».proof.Proof.Gen.ReferenceIdeal
public import proofs.«01_k».proof.Proof.Gen.ReferenceIdeal.Value
public import Idealize.ShloMosaic.Lib.MatmulPlain
public import Idealize.ShloMosaic.Lib.Layout

@[expose] public section

noncomputable section

namespace Cert.KernelProof

open Cert.KernelIdeal Cert.KernelIdeal.Gen
open Idealize.ShloMosaic Idealize.ShloMosaic.TcCoe Idealize.ShloMosaic.ValueIdx
open Idealize.SL.Sem

/-! ## The largest magnitude of an array -/

/-- The largest magnitude of an array. -/
def peak {s : Shape} (y : s.Idx → EReal) : EReal := ⨆ i : s.Idx, max (y i) (-y i)

/-- What the kernel computes of its first chunk, -/
theorem pay10_eq (y : Vec Ideal S1024x512 .f32) : k0_pay10 y = peak y := by
  unfold k0_pay10
  refine (top_eq _ _ _ (by decide) _ _ _ _ _).trans ?_
  rw [shapeCast_self]
  rfl
/-- and with each further chunk. -/
theorem pay12_eq (a : Ideal .f32) (y : Vec Ideal S1024x512 .f32) : k0_pay12 a y = max (a : EReal) (peak y) := by
  rw [← pay10_eq, ← smax_eq]
  rfl
theorem pay14_eq (a : Ideal .f32) (y : Vec Ideal S1024x512 .f32) : k0_pay14 a y = max (a : EReal) (peak y) := by
  rw [← pay10_eq, ← smax_eq]
  rfl
theorem pay16_eq (a : Ideal .f32) (y : Vec Ideal S1024x512 .f32) : k0_pay16 a y = max (a : EReal) (peak y) := by
  rw [← pay10_eq, ← smax_eq]
  rfl

/-- The maximum of the four slots. -/
theorem pay18_eq (v : Vec Ideal S4x8x128 .f32) : k0_pay18 v = ⨆ i : S4x8x128.Idx, (v i : EReal) := by
  unfold k0_pay18
  exact top_eq _ _ _ (by decide) _ _ _ _ _

/-! ## A chunk and the whole product, quantised -/

/-- A chunk quantised by the kernel at the maximum its four slots hold. -/
theorem outCh_val (v : Vec Ideal S4x8x128 .f32) (y : Vec Ideal S1024x512 .f32) (i : S1024x512.Idx) :
    k0_pay2 (k0_pay19 v) (k0_pay20 v) y i = quant (k0_pay18 v) (y i) := by
  have h1 : k0_pay19 v = Ideal.div (k0_pay18 v) c448 := by
    unfold k0_pay19
    rw [← s448_eq, ← sdiv_eq]
  have h2 : k0_pay20 v = Ideal.div c448 (k0_pay18 v) := by
    unfold k0_pay20
    rw [← s448_eq, ← sdiv_eq]
  have h3 : ∀ p q : Ideal .f32, k0_pay2 p q y = scaled (shapeCast S1024x512 y shapeCasts_S1024x512_S1024x512) q p bitsLt_fp8e4m3_f32 := fun _ _ => rfl
  rw [h3, scaled_apply, shapeCast_self, h1, h2, quant_eq]

/-- The reference's product. -/
def prod (X : Vec Ideal Cert.ReferenceIdeal.S4096x4096 .f32) (W : Vec Ideal Cert.ReferenceIdeal.S4096x2048 .f32) :
    FVec Ideal Cert.ReferenceIdeal.S4096x2048 .f32 :=
  matmul (F := Ideal) Cert.ReferenceIdeal.dot_S4096x4096_S4096x2048_S4096x2048_1_0_0_1_n_n none
    (truncf .bf16 X Cert.ReferenceIdeal.Facts₀.bitsLt_bf16_f32 : FVec Ideal _ .bf16) (truncf .bf16 W Cert.ReferenceIdeal.Facts₀.bitsLt_bf16_f32 : FVec Ideal _ .bf16)
    (constant Cert.ReferenceIdeal.S4096x2048 .f32 0x00000000#32)

/-- Its entries are sums of products of entries. -/
theorem prod_apply (X : Vec Ideal Cert.ReferenceIdeal.S4096x4096 .f32) (W : Vec Ideal Cert.ReferenceIdeal.S4096x2048 .f32)
    (r : Fin 4096) (l : Fin 2048) : prod X W (ix2 r l) = ∑ k : Fin 4096, (X (ix2 r k) : EReal) * W (ix2 k l) := by
  refine (Ideal.matmul_plain_apply none _ _ _ r l).trans ?_
  rw [show (constant (F := Ideal) Cert.ReferenceIdeal.S4096x2048 .f32 0x00000000#32 (ix2 r l) : EReal) = 0 from Ideal.ofBits_zero_f32, zero_add]
  rfl

/-- The reference quantises its product at the product's largest magnitude. -/
theorem ref_val (X : Vec Ideal Cert.ReferenceIdeal.S4096x4096 .f32) (W : Vec Ideal Cert.ReferenceIdeal.S4096x2048 .f32)
    (p : Cert.ReferenceIdeal.S4096x2048.Idx) : Cert.ReferenceIdeal.Gen.k0_pay1 X W p = quant (peak (prod X W)) (prod X W p) := by
  have h : Cert.ReferenceIdeal.Gen.k0_pay1 X W = divided (prod X W) (Scalar.divf (peak (prod X W)) (Scalar.ofBits .f32 0x43E00000#32))
      Cert.ReferenceIdeal.Facts₀.bitsLt_fp8e4m3_f32 :=
    congrArg (fun g : Ideal .f32 => divided (prod X W) (Scalar.divf g (Scalar.ofBits .f32 0x43E00000#32)) Cert.ReferenceIdeal.Facts₀.bitsLt_fp8e4m3_f32)
      (top_eq (absf (prod X W)) Cert.ReferenceIdeal.Facts₀.shapeCasts_S4096x2048_S1x4096x2048 Cert.ReferenceIdeal.Facts₀.reduces_S1x4096x2048_S1
        (by decide) (.inl rfl) rfl Cert.ReferenceIdeal.Facts₀.shapeCasts_S1_S1x1x1 ![0, 0, 0] Cert.ReferenceIdeal.Facts₀.inpos_S1x1x1_p0_0_0)
  rw [h, divided_apply, sdiv_eq, s448_eq]
  rfl

/-! ## The chunks are the product's blocks -/

variable (m : (ℓ : Loc nD τ sig) → Buf (Elt Ideal) ℓ)

/-- A device's rows and columns, as launched. -/
abbrev rows (j : Dev nD) : Vec Ideal S1024x4096 .f32 := m ((j : Thread nD τ).loc main_arg0)
abbrev cols (c : Dev nD) : Vec Ideal S4096x512 .f32 := m ((c : Thread nD τ).loc main_arg1)

/-- An entry of a chunk. -/
theorem yAt_apply (c j : Dev nD) (r : Fin 1024) (l : Fin 512) :
    yAt m c j (ix2 r l) = ∑ k : Fin 4096, (rows m j (ix2 r k) : EReal) * cols m c (ix2 k l) := by
  refine (Ideal.matmul_plain_apply none _ _ _ r l).trans ?_
  rw [show (constant (F := Ideal) S1024x512 .f32 0x00000000#32 (ix2 r l) : EReal) = 0 from Ideal.ofBits_zero_f32, zero_add]
  have hw : wbAt m c = cols m c := by
    unfold wbAt
    rw [wstg_eq]
    show shapeCast S4096x512 (truncf (F := Ideal) .bf16 (shapeCast S4096x512 _ _) _) _ = _
    rw [shapeCast_self, shapeCast_self]
    rfl
  rw [hw]
  rfl

/-- Where entry `i` of device `c`'s chunk `j` lies in the whole product. -/
def place (c j : Dev nD) (i : S1024x512.Idx) : Cert.ReferenceIdeal.S4096x2048.Idx :=
  ix2 ⟨1024 * j.val + (i 0).val, by have h : (i 0).val < 1024 := (i 0).isLt; have hj : j.val < 4 := j.isLt; omega⟩
    ⟨512 * c.val + (i 1).val, by have h : (i 1).val < 512 := (i 1).isLt; have hc : c.val < 4 := c.isLt; omega⟩

/-- Every entry of the product lies in some device's chunk. -/
theorem exists_place (p : Cert.ReferenceIdeal.S4096x2048.Idx) : ∃ c j i, place c j i = p := by
  have h0 : (p 0).val < 4096 := (p 0).isLt
  have h1 : (p 1).val < 2048 := (p 1).isLt
  refine ⟨⟨(p 1).val / 512, by show _ < 4; omega⟩, ⟨(p 0).val / 1024, by show _ < 4; omega⟩,
    ix2 ⟨(p 0).val % 1024, by omega⟩ ⟨(p 1).val % 512, by omega⟩, ?_⟩
  apply Shape.idx_ext₂
  · show 1024 * ((p 0).val / 1024) + (p 0).val % 1024 = (p 0).val; omega
  · show 512 * ((p 1).val / 512) + (p 1).val % 512 = (p 1).val; omega

variable (X : Vec Ideal Cert.ReferenceIdeal.S4096x4096 .f32) (W : Vec Ideal Cert.ReferenceIdeal.S4096x2048 .f32)
variable (hX : ∀ c : Dev nD, m ((c : Thread nD τ).loc main_arg0) = Layout.block ⟨2, ![1024, 4096]⟩ ⟨2, ![4096, 4096]⟩ 0 4 c X)
variable (hW : ∀ c : Dev nD, m ((c : Thread nD τ).loc main_arg1) = Layout.block ⟨2, ![4096, 512]⟩ ⟨2, ![4096, 2048]⟩ 1 4 c W)

include hX hW

/-- A chunk's entry is the product's at its place. -/
theorem yAt_eq (c j : Dev nD) (i : S1024x512.Idx) : yAt m c j i = prod X W (place c j i) := by
  have hi : i = ix2 (n0 := 1024) (n1 := 512) (i 0) (i 1) := Shape.idx_ext₂ rfl rfl
  refine ((congrArg (yAt m c j) hi).trans (yAt_apply m c j (i 0) (i 1))).trans ?_
  unfold place
  rw [prod_apply]
  refine Finset.sum_congr rfl fun k _ => ?_
  refine congrArg₂ (fun a b : EReal => a * b) ((congrFun (hX j) _).trans (congrArg X (Shape.idx_ext₂ ?_ rfl)))
    ((congrFun (hW c) _).trans (congrArg W (Shape.idx_ext₂ rfl ?_)))
  · show j.val * 1024 + (i 0).val = 1024 * j.val + (i 0).val
    omega
  · show c.val * 512 + (i 1).val = 512 * c.val + (i 1).val
    omega

omit hX hW in
/-- The largest magnitude of any chunk of a device is within what the device gathered, -/
theorem peak_le_amax (c j : Dev nD) : peak (yAt m c j) ≤ (amax m c : EReal) := by
  unfold amax
  rw [pay16_eq, pay14_eq, pay12_eq, pay10_eq]
  rcases all_four c j with h | h | h | h <;> subst h
  · exact le_max_of_le_left (le_max_of_le_left (le_max_left _ _))
  · exact le_max_of_le_left (le_max_of_le_left (le_max_right _ _))
  · exact le_max_of_le_left (le_max_right _ _)
  · exact le_max_right _ _

/-- which is within the product's largest magnitude. -/
theorem amax_le (c : Dev nD) : (amax m c : EReal) ≤ peak (prod X W) := by
  have h : ∀ j, peak (yAt m c j) ≤ peak (prod X W) := fun j => iSup_le fun i => by
    rw [yAt_eq m X W hX hW]
    exact le_iSup (fun p => max (prod X W p : EReal) (-prod X W p)) (place c j i)
  unfold amax
  rw [pay16_eq, pay14_eq, pay12_eq, pay10_eq]
  exact max_le (max_le (max_le (h _) (h _)) (h _)) (h _)

/-- The maximum of a device's four slots is the product's largest magnitude. -/
theorem gmax_eq (c : Dev nD) : k0_pay18 (scAt m c) = peak (prod X W) := by
  rw [pay18_eq]
  apply le_antisymm
  · refine iSup_le fun i => ?_
    unfold scAt
    split_ifs <;> exact amax_le m X W hX hW _
  · refine iSup_le fun p => ?_
    obtain ⟨d, j, i, rfl⟩ := exists_place p
    rw [← yAt_eq m X W hX hW]
    refine (le_iSup (fun i => max (yAt m d j i : EReal) (-yAt m d j i)) i).trans ((peak_le_amax m d j).trans ?_)
    have slot : ∀ k : Fin 4, ∃ i : S4x8x128.Idx, (i 0).val = k.val := fun k =>
      ⟨fun a => match a with | ⟨0, _⟩ => k | ⟨1, _⟩ => (0 : Fin 8) | ⟨2, _⟩ => (0 : Fin 128), rfl⟩
    rcases all_four c d with h | h | h | h <;> subst h
    · obtain ⟨i, hi⟩ := slot 0
      exact (scAt_0 m _ i hi) ▸ le_iSup (fun i => (scAt m _ i : EReal)) i
    · obtain ⟨i, hi⟩ := slot 1
      exact (scAt_1 m _ i hi) ▸ le_iSup (fun i => (scAt m _ i : EReal)) i
    · obtain ⟨i, hi⟩ := slot 2
      exact (scAt_2 m _ i hi) ▸ le_iSup (fun i => (scAt m _ i : EReal)) i
    · obtain ⟨i, hi⟩ := slot 3
      exact (scAt_3 m _ i hi) ▸ le_iSup (fun i => (scAt m _ i : EReal)) i

/-- A device's result is its columns of the reference's. -/
theorem outAt_eq (c : Dev nD) : outAt m c = Layout.block ⟨2, ![4096, 512]⟩ ⟨2, ![4096, 2048]⟩ 1 4 c (Cert.ReferenceIdeal.Gen.k0_pay1 X W) := by
  funext i
  rw [Layout.block_apply, ref_val]
  unfold outAt stack outCh
  rw [outCh_val, gmax_eq m X W hX hW, yAt_eq m X W hX hW]
  refine congrArg (fun p => quant (peak (prod X W)) (prod X W p)) (Shape.idx_ext₂ ?_ ?_)
  · show 1024 * ((i 0).val / 1024) + (i 0).val % 1024 = (i 0).val
    omega
  · show 512 * c.val + (i 1).val = c.val * 512 + (i 1).val
    omega

omit hX hW in
/-- The kernel computes what the reference computes, each device its columns. -/
theorem algebraic : Cert.algebraic_KernelIdeal_ReferenceIdeal := fun m g m' g' _ hin =>
  ⟨_, (θ_run Cert.KernelIdeal.defs _ _).mono (fun r h c => ⟨((h.1 c).1).trans (outAt_eq m _ _ (fun c => (hin c).1) (fun c => (hin c).2) c), (h.1 c).2⟩)
      (run_values (F := Ideal) m g),
    (θ_run Cert.ReferenceIdeal.defs _ _).mono (fun r h => h 0) (Cert.ReferenceIdeal.Value.run (F := Ideal) m' g')⟩

end Cert.KernelProof

end
-- ==== Proof.lean ====
/-
The certificate of the ring all-gather, matrix product and per-tensor quantiser on four devices: the frames of the three
programs, the ideal program's being the kernel's reading over the extended reals, and the kernel's value against the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Final
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.KernelProof.frame_kernel, Cert.KernelProof.frame_ideal, fun m ρ _ => Cert.ReferenceIdeal.Gen.frame m ρ, trivial,
  Cert.KernelProof.algebraic⟩

end Cert.Proof

end
